-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_ProjLn (m : (ℓ : Loc Cert.ProjLn.nD Cert.ProjLn.τ Cert.ProjLn.sig) → Buf (Elt Bits) ℓ) : Prop :=
  True

def Pre_ProjLnIdeal (m : (ℓ : Loc Cert.ProjLnIdeal.nD Cert.ProjLnIdeal.τ Cert.ProjLnIdeal.sig) → Buf (Elt Ideal) ℓ) : Prop :=
  True

def Pre_ProjLnRefIdeal (m : (ℓ : Loc Cert.ProjLnRefIdeal.nD Cert.ProjLnRefIdeal.τ Cert.ProjLnRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_all_finite [hPre_all_finite : Cert.Pre_all_finite.Facts] (m : (ℓ : Loc Cert.RouteIdeal.nD Cert.RouteIdeal.τ Cert.RouteIdeal.sig) → Buf (Elt Ideal) ℓ) : Prop :=
  ∀ c : Dev Cert.RouteIdeal.nD,
    (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).2.1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).2.2 = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_all_finite [hPre_all_finite : Cert.Pre_all_finite.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))).1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))).2.1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))).2.2 = (fun _ => 1#1)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_ProjLn [hProjLn : Cert.ProjLn.Facts] : Prop :=
  ∀ (m : (ℓ : Loc Cert.ProjLn.nD Cert.ProjLn.τ Cert.ProjLn.sig) → Buf (Elt Bits) ℓ) (g : Dev Cert.ProjLn.nD → PrngReg), Pre_ProjLn m →
    θ_run (Cert.ProjLn.defs (F := Bits)) (onTc (τ := Cert.ProjLn.τ) (Cert.ProjLn.main (F := Bits))) ⟨m, fun _ => 0, g⟩ (fun r => (∀ c : Dev Cert.ProjLn.nD,
      r.2.mem ((c.tc : Thread Cert.ProjLn.nD Cert.ProjLn.τ).loc Cert.ProjLn.main_arg0) = m ((c.tc : Thread Cert.ProjLn.nD Cert.ProjLn.τ).loc Cert.ProjLn.main_arg0)
      ∧ r.2.mem ((c.tc : Thread Cert.ProjLn.nD Cert.ProjLn.τ).loc Cert.ProjLn.main_arg1) = m ((c.tc : Thread Cert.ProjLn.nD Cert.ProjLn.τ).loc Cert.ProjLn.main_arg1)
      ∧ r.2.mem ((c.tc : Thread Cert.ProjLn.nD Cert.ProjLn.τ).loc Cert.ProjLn.main_arg2) = m ((c.tc : Thread Cert.ProjLn.nD Cert.ProjLn.τ).loc Cert.ProjLn.main_arg2)
      ∧ r.2.mem ((c.tc : Thread Cert.ProjLn.nD Cert.ProjLn.τ).loc Cert.ProjLn.main_arg3) = m ((c.tc : Thread Cert.ProjLn.nD Cert.ProjLn.τ).loc Cert.ProjLn.main_arg3)
      ∧ r.2.mem ((c.tc : Thread Cert.ProjLn.nD Cert.ProjLn.τ).loc Cert.ProjLn.main_arg4) = m ((c.tc : Thread Cert.ProjLn.nD Cert.ProjLn.τ).loc Cert.ProjLn.main_arg4)
      ∧ r.2.mem ((c.tc : Thread Cert.ProjLn.nD Cert.ProjLn.τ).loc Cert.ProjLn.main_arg5) = m ((c.tc : Thread Cert.ProjLn.nD Cert.ProjLn.τ).loc Cert.ProjLn.main_arg5))
      ∧ r.2.sem = fun _ => 0)

def quiescent_ProjLnIdeal [hProjLnIdeal : Cert.ProjLnIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg), Pre_ProjLnIdeal m →
    θ_run (Cert.ProjLnIdeal.defs (F := Ideal)) (onTc (τ := Cert.ProjLnIdeal.τ) (Cert.ProjLnIdeal.main (F := Ideal))) ⟨m, fun _ => 0, g⟩ (fun r => (∀ c : Dev Cert.ProjLnIdeal.nD,
      r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
      ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
      ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
      ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
      ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4)
      ∧ r.2.mem ((c.tc : Thread Cert.ProjLnIdeal.nD Cert.ProjLnIdeal.τ).loc Cert.ProjLnIdeal.main_arg5) = m ((c.tc : Thread Cert.ProjLnIdeal.nD Cert.ProjLnIdeal.τ).loc Cert.ProjLnIdeal.main_arg5))
      ∧ r.2.sem = fun _ => 0)

def quiescent_ProjLnRefIdeal [hProjLnRefIdeal : Cert.ProjLnRefIdeal.Facts] : Prop :=
  ∀ (m : (ℓ : Loc Cert.ProjLnRefIdeal.nD Cert.ProjLnRefIdeal.τ Cert.ProjLnRefIdeal.sig) → Buf (Elt Ideal) ℓ) (g : Dev Cert.ProjLnRefIdeal.nD → PrngReg), Pre_ProjLnRefIdeal m →
    θ_run (Cert.ProjLnRefIdeal.defs (F := Ideal)) (onTc (τ := Cert.ProjLnRefIdeal.τ) (Cert.ProjLnRefIdeal.main (F := Ideal))) ⟨m, fun _ => 0, g⟩ (fun r => (∀ c : Dev Cert.ProjLnRefIdeal.nD,
      r.2.mem ((c.tc : Thread Cert.ProjLnRefIdeal.nD Cert.ProjLnRefIdeal.τ).loc Cert.ProjLnRefIdeal.main_arg0) = m ((c.tc : Thread Cert.ProjLnRefIdeal.nD Cert.ProjLnRefIdeal.τ).loc Cert.ProjLnRefIdeal.main_arg0)
      ∧ r.2.mem ((c.tc : Thread Cert.ProjLnRefIdeal.nD Cert.ProjLnRefIdeal.τ).loc Cert.ProjLnRefIdeal.main_arg1) = m ((c.tc : Thread Cert.ProjLnRefIdeal.nD Cert.ProjLnRefIdeal.τ).loc Cert.ProjLnRefIdeal.main_arg1)
      ∧ r.2.mem ((c.tc : Thread Cert.ProjLnRefIdeal.nD Cert.ProjLnRefIdeal.τ).loc Cert.ProjLnRefIdeal.main_arg2) = m ((c.tc : Thread Cert.ProjLnRefIdeal.nD Cert.ProjLnRefIdeal.τ).loc Cert.ProjLnRefIdeal.main_arg2)
      ∧ r.2.mem ((c.tc : Thread Cert.ProjLnRefIdeal.nD Cert.ProjLnRefIdeal.τ).loc Cert.ProjLnRefIdeal.main_arg3) = m ((c.tc : Thread Cert.ProjLnRefIdeal.nD Cert.ProjLnRefIdeal.τ).loc Cert.ProjLnRefIdeal.main_arg3)
      ∧ r.2.mem ((c.tc : Thread Cert.ProjLnRefIdeal.nD Cert.ProjLnRefIdeal.τ).loc Cert.ProjLnRefIdeal.main_arg4) = m ((c.tc : Thread Cert.ProjLnRefIdeal.nD Cert.ProjLnRefIdeal.τ).loc Cert.ProjLnRefIdeal.main_arg4)
      ∧ r.2.mem ((c.tc : Thread Cert.ProjLnRefIdeal.nD Cert.ProjLnRefIdeal.τ).loc Cert.ProjLnRefIdeal.main_arg5) = m ((c.tc : Thread Cert.ProjLnRefIdeal.nD Cert.ProjLnRefIdeal.τ).loc Cert.ProjLnRefIdeal.main_arg5))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5)
      ∧ r.2.mem ((c.tc : Thread Cert.MemAttn.nD Cert.MemAttn.τ).loc Cert.MemAttn.main_arg6) = m ((c.tc : Thread Cert.MemAttn.nD Cert.MemAttn.τ).loc Cert.MemAttn.main_arg6))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_all_finite [hRouteIdeal : Cert.RouteIdeal.Facts] [hPre_all_finite : Cert.Pre_all_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_all_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_RouteRefIdeal_pre_all_finite [hRouteRefIdeal : Cert.RouteRefIdeal.Facts] [hPre_all_finite : Cert.Pre_all_finite.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_all_finite m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v39)) (v2 : (c : Dev Cert.InProjIdeal.nD) → Buf (Elt Ideal) ((c.tc : Thread Cert.InProjIdeal.nD Cert.InProjIdeal.τ).loc Cert.InProjIdeal.main_v69)) (v3 : (c : Dev Cert.InProjIdeal.nD) → Buf (Elt Ideal) ((c.tc : Thread Cert.InProjIdeal.nD Cert.InProjIdeal.τ).loc Cert.InProjIdeal.main_v6_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v39) = v1 c
          ∧ r.2.mem ((c.tc : Thread Cert.InProjIdeal.nD Cert.InProjIdeal.τ).loc Cert.InProjIdeal.main_v69) = v2 c
          ∧ r.2.mem ((c.tc : Thread Cert.InProjIdeal.nD Cert.InProjIdeal.τ).loc Cert.InProjIdeal.main_v6_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v9) = v0 c
          ∧ r.2.mem ((c.tc : Thread Cert.InProjRefIdeal.nD Cert.InProjRefIdeal.τ).loc Cert.InProjRefIdeal.main_v39) = v1 c
          ∧ r.2.mem ((c.tc : Thread Cert.InProjRefIdeal.nD Cert.InProjRefIdeal.τ).loc Cert.InProjRefIdeal.main_v69) = v2 c
          ∧ r.2.mem ((c.tc : Thread Cert.InProjRefIdeal.nD Cert.InProjRefIdeal.τ).loc Cert.InProjRefIdeal.main_v70) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_ProjLn_ProjLnIdeal : Prop :=
  True

def algebraic_ProjLnIdeal_ProjLnRefIdeal [hProjLnIdeal : Cert.ProjLnIdeal.Facts] [hProjLnRefIdeal : Cert.ProjLnRefIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg)
    (m' : (ℓ : Loc Cert.ProjLnRefIdeal.nD Cert.ProjLnRefIdeal.τ Cert.ProjLnRefIdeal.sig) → Buf (Elt Ideal) ℓ) (g' : Dev Cert.ProjLnRefIdeal.nD → PrngReg), Pre_ProjLnIdeal m →
    (∀ c : Dev Cert.ProjLnIdeal.nD,
      m' ((c.tc : Thread Cert.ProjLnRefIdeal.nD Cert.ProjLnRefIdeal.τ).loc Cert.ProjLnRefIdeal.main_arg0) = m ((c.tc : Thread Cert.ProjLnIdeal.nD Cert.ProjLnIdeal.τ).loc Cert.ProjLnIdeal.main_arg0)
      ∧ m' ((c.tc : Thread Cert.ProjLnRefIdeal.nD Cert.ProjLnRefIdeal.τ).loc Cert.ProjLnRefIdeal.main_arg1) = m ((c.tc : Thread Cert.ProjLnIdeal.nD Cert.ProjLnIdeal.τ).loc Cert.ProjLnIdeal.main_arg1)
      ∧ m' ((c.tc : Thread Cert.ProjLnRefIdeal.nD Cert.ProjLnRefIdeal.τ).loc Cert.ProjLnRefIdeal.main_arg2) = m ((c.tc : Thread Cert.ProjLnIdeal.nD Cert.ProjLnIdeal.τ).loc Cert.ProjLnIdeal.main_arg2)
      ∧ m' ((c.tc : Thread Cert.ProjLnRefIdeal.nD Cert.ProjLnRefIdeal.τ).loc Cert.ProjLnRefIdeal.main_arg3) = m ((c.tc : Thread Cert.ProjLnIdeal.nD Cert.ProjLnIdeal.τ).loc Cert.ProjLnIdeal.main_arg3)
      ∧ m' ((c.tc : Thread Cert.ProjLnRefIdeal.nD Cert.ProjLnRefIdeal.τ).loc Cert.ProjLnRefIdeal.main_arg4) = m ((c.tc : Thread Cert.ProjLnIdeal.nD Cert.ProjLnIdeal.τ).loc Cert.ProjLnIdeal.main_arg4)
      ∧ m' ((c.tc : Thread Cert.ProjLnRefIdeal.nD Cert.ProjLnRefIdeal.τ).loc Cert.ProjLnRefIdeal.main_arg5) = m ((c.tc : Thread Cert.ProjLnIdeal.nD Cert.ProjLnIdeal.τ).loc Cert.ProjLnIdeal.main_arg5)) →
    ∃ (v0 : (c : Dev Cert.ProjLnIdeal.nD) → Buf (Elt Ideal) ((c.tc : Thread Cert.ProjLnIdeal.nD Cert.ProjLnIdeal.τ).loc Cert.ProjLnIdeal.main_v6)),
      θ_run (Cert.ProjLnIdeal.defs (F := Ideal)) (onTc (τ := Cert.ProjLnIdeal.τ) (Cert.ProjLnIdeal.main (F := Ideal))) ⟨m, fun _ => 0, g⟩ (fun r => ∀ c : Dev Cert.ProjLnIdeal.nD,
          r.2.mem ((c.tc : Thread Cert.ProjLnIdeal.nD Cert.ProjLnIdeal.τ).loc Cert.ProjLnIdeal.main_v6) = v0 c
          ∧ r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
          ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
          ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
          ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
          ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4)
          ∧ r.2.mem ((c.tc : Thread Cert.ProjLnIdeal.nD Cert.ProjLnIdeal.τ).loc Cert.ProjLnIdeal.main_arg5) = m ((c.tc : Thread Cert.ProjLnIdeal.nD Cert.ProjLnIdeal.τ).loc Cert.ProjLnIdeal.main_arg5))
      ∧ θ_run (Cert.ProjLnRefIdeal.defs (F := Ideal)) (onTc (τ := Cert.ProjLnRefIdeal.τ) (Cert.ProjLnRefIdeal.main (F := Ideal))) ⟨m', fun _ => 0, g'⟩ (fun r => ∀ c : Dev Cert.ProjLnRefIdeal.nD,
          r.2.mem ((c.tc : Thread Cert.ProjLnRefIdeal.nD Cert.ProjLnRefIdeal.τ).loc Cert.ProjLnRefIdeal.main_v29) = v0 c
          ∧ r.2.mem ((c.tc : Thread Cert.ProjLnRefIdeal.nD Cert.ProjLnRefIdeal.τ).loc Cert.ProjLnRefIdeal.main_arg0) = m' ((c.tc : Thread Cert.ProjLnRefIdeal.nD Cert.ProjLnRefIdeal.τ).loc Cert.ProjLnRefIdeal.main_arg0)
          ∧ r.2.mem ((c.tc : Thread Cert.ProjLnRefIdeal.nD Cert.ProjLnRefIdeal.τ).loc Cert.ProjLnRefIdeal.main_arg1) = m' ((c.tc : Thread Cert.ProjLnRefIdeal.nD Cert.ProjLnRefIdeal.τ).loc Cert.ProjLnRefIdeal.main_arg1)
          ∧ r.2.mem ((c.tc : Thread Cert.ProjLnRefIdeal.nD Cert.ProjLnRefIdeal.τ).loc Cert.ProjLnRefIdeal.main_arg2) = m' ((c.tc : Thread Cert.ProjLnRefIdeal.nD Cert.ProjLnRefIdeal.τ).loc Cert.ProjLnRefIdeal.main_arg2)
          ∧ r.2.mem ((c.tc : Thread Cert.ProjLnRefIdeal.nD Cert.ProjLnRefIdeal.τ).loc Cert.ProjLnRefIdeal.main_arg3) = m' ((c.tc : Thread Cert.ProjLnRefIdeal.nD Cert.ProjLnRefIdeal.τ).loc Cert.ProjLnRefIdeal.main_arg3)
          ∧ r.2.mem ((c.tc : Thread Cert.ProjLnRefIdeal.nD Cert.ProjLnRefIdeal.τ).loc Cert.ProjLnRefIdeal.main_arg4) = m' ((c.tc : Thread Cert.ProjLnRefIdeal.nD Cert.ProjLnRefIdeal.τ).loc Cert.ProjLnRefIdeal.main_arg4)
          ∧ r.2.mem ((c.tc : Thread Cert.ProjLnRefIdeal.nD Cert.ProjLnRefIdeal.τ).loc Cert.ProjLnRefIdeal.main_arg5) = m' ((c.tc : Thread Cert.ProjLnRefIdeal.nD Cert.ProjLnRefIdeal.τ).loc Cert.ProjLnRefIdeal.main_arg5))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)
      ∧ m' ((c.tc : Thread Cert.MemAttnRefIdeal.nD Cert.MemAttnRefIdeal.τ).loc Cert.MemAttnRefIdeal.main_arg6) = m ((c.tc : Thread Cert.MemAttnIdeal.nD Cert.MemAttnIdeal.τ).loc Cert.MemAttnIdeal.main_arg6)) →
    ∃ (v0 : (c : Dev Cert.MemAttnIdeal.nD) → Buf (Elt Ideal) ((c.tc : Thread Cert.MemAttnIdeal.nD Cert.MemAttnIdeal.τ).loc Cert.MemAttnIdeal.main_v6)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v6) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
          ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v46) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5)
          ∧ r.2.mem ((c.tc : Thread Cert.MemAttnRefIdeal.nD Cert.MemAttnRefIdeal.τ).loc Cert.MemAttnRefIdeal.main_arg6) = m' ((c.tc : Thread Cert.MemAttnRefIdeal.nD Cert.MemAttnRefIdeal.τ).loc Cert.MemAttnRefIdeal.main_arg6))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)) →
    ∃ (v0 : (c : Dev Cert.InSampleIdeal.nD) → Buf (Elt Ideal) ((c.tc : Thread Cert.InSampleIdeal.nD Cert.InSampleIdeal.τ).loc Cert.InSampleIdeal.main_v6_0)) (v1 : (c : Dev Cert.InSampleIdeal.nD) → Buf (Elt Ideal) ((c.tc : Thread Cert.InSampleIdeal.nD Cert.InSampleIdeal.τ).loc Cert.InSampleIdeal.main_v38)) (v2 : (c : Dev Cert.InSampleIdeal.nD) → Buf (Elt Ideal) ((c.tc : Thread Cert.InSampleIdeal.nD Cert.InSampleIdeal.τ).loc Cert.InSampleIdeal.main_v67)) (v3 : (c : Dev Cert.InSampleIdeal.nD) → Buf (Elt Ideal) ((c.tc : Thread Cert.InSampleIdeal.nD Cert.InSampleIdeal.τ).loc Cert.InSampleIdeal.main_v6_3)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v6_0) = v0 c
          ∧ r.2.mem ((c.tc : Thread Cert.InSampleIdeal.nD Cert.InSampleIdeal.τ).loc Cert.InSampleIdeal.main_v38) = v1 c
          ∧ r.2.mem ((c.tc : Thread Cert.InSampleIdeal.nD Cert.InSampleIdeal.τ).loc Cert.InSampleIdeal.main_v67) = v2 c
          ∧ r.2.mem ((c.tc : Thread Cert.InSampleIdeal.nD Cert.InSampleIdeal.τ).loc Cert.InSampleIdeal.main_v6_3) = v3 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v9) = v0 c
          ∧ r.2.mem ((c.tc : Thread Cert.InSampleRefIdeal.nD Cert.InSampleRefIdeal.τ).loc Cert.InSampleRefIdeal.main_v38) = v1 c
          ∧ r.2.mem ((c.tc : Thread Cert.InSampleRefIdeal.nD Cert.InSampleRefIdeal.τ).loc Cert.InSampleRefIdeal.main_v67) = v2 c
          ∧ r.2.mem ((c.tc : Thread Cert.InSampleRefIdeal.nD Cert.InSampleRefIdeal.τ).loc Cert.InSampleRefIdeal.main_v68) = v3 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1))

def preserves_Route_RouteIdeal : Prop :=
  True

def algebraic_RouteIdeal_RouteRefIdeal_pre_all_finite [hRouteIdeal : Cert.RouteIdeal.Facts] [hRouteRefIdeal : Cert.RouteRefIdeal.Facts] [hPre_all_finite : Cert.Pre_all_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_all_finite m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v3_0)) (v1 : (c : Dev Cert.RouteIdeal.nD) → Buf (Elt Ideal) ((c.tc : Thread Cert.RouteIdeal.nD Cert.RouteIdeal.τ).loc Cert.RouteIdeal.main_v3_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_v3_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v40) = v0 c
          ∧ r.2.mem ((c.tc : Thread Cert.RouteRefIdeal.nD Cert.RouteRefIdeal.τ).loc Cert.RouteRefIdeal.main_v42) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def Claim : Prop :=
  ∃ (hMemKv : Cert.MemKv.Facts) (hMemKvIdeal : Cert.MemKvIdeal.Facts) (hMemKvRefIdeal : Cert.MemKvRefIdeal.Facts) (hInProj : Cert.InProj.Facts) (hInProjIdeal : Cert.InProjIdeal.Facts) (hInProjRefIdeal : Cert.InProjRefIdeal.Facts) (hProjLn : Cert.ProjLn.Facts) (hProjLnIdeal : Cert.ProjLnIdeal.Facts) (hProjLnRefIdeal : Cert.ProjLnRefIdeal.Facts) (hMemAttn : Cert.MemAttn.Facts) (hMemAttnIdeal : Cert.MemAttnIdeal.Facts) (hMemAttnRefIdeal : Cert.MemAttnRefIdeal.Facts) (hInSample : Cert.InSample.Facts) (hInSampleIdeal : Cert.InSampleIdeal.Facts) (hInSampleRefIdeal : Cert.InSampleRefIdeal.Facts) (hRoute : Cert.Route.Facts) (hRouteIdeal : Cert.RouteIdeal.Facts) (hRouteRefIdeal : Cert.RouteRefIdeal.Facts) (hPre_all_finite : Cert.Pre_all_finite.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_InProj (hInProj := hInProj)
    ∧ quiescent_InProjIdeal (hInProjIdeal := hInProjIdeal)
    ∧ quiescent_InProjRefIdeal (hInProjRefIdeal := hInProjRefIdeal)
    ∧ quiescent_ProjLn (hProjLn := hProjLn)
    ∧ quiescent_ProjLnIdeal (hProjLnIdeal := hProjLnIdeal)
    ∧ quiescent_ProjLnRefIdeal (hProjLnRefIdeal := hProjLnRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_InSample (hInSample := hInSample)
    ∧ quiescent_InSampleIdeal (hInSampleIdeal := hInSampleIdeal)
    ∧ quiescent_InSampleRefIdeal (hInSampleRefIdeal := hInSampleRefIdeal)
    ∧ quiescent_Route (hRoute := hRoute)
    ∧ quiescent_RouteIdeal (hRouteIdeal := hRouteIdeal)
    ∧ quiescent_RouteIdeal_pre_all_finite (hRouteIdeal := hRouteIdeal) (hPre_all_finite := hPre_all_finite)
    ∧ quiescent_RouteRefIdeal (hRouteRefIdeal := hRouteRefIdeal)
    ∧ quiescent_RouteRefIdeal_pre_all_finite (hRouteRefIdeal := hRouteRefIdeal) (hPre_all_finite := hPre_all_finite)
    ∧ preserves_MemKv_MemKvIdeal
    ∧ algebraic_MemKvIdeal_MemKvRefIdeal (hMemKvIdeal := hMemKvIdeal) (hMemKvRefIdeal := hMemKvRefIdeal)
    ∧ preserves_InProj_InProjIdeal
    ∧ algebraic_InProjIdeal_InProjRefIdeal (hInProjIdeal := hInProjIdeal) (hInProjRefIdeal := hInProjRefIdeal)
    ∧ preserves_ProjLn_ProjLnIdeal
    ∧ algebraic_ProjLnIdeal_ProjLnRefIdeal (hProjLnIdeal := hProjLnIdeal) (hProjLnRefIdeal := hProjLnRefIdeal)
    ∧ preserves_MemAttn_MemAttnIdeal
    ∧ algebraic_MemAttnIdeal_MemAttnRefIdeal (hMemAttnIdeal := hMemAttnIdeal) (hMemAttnRefIdeal := hMemAttnRefIdeal)
    ∧ preserves_InSample_InSampleIdeal
    ∧ algebraic_InSampleIdeal_InSampleRefIdeal (hInSampleIdeal := hInSampleIdeal) (hInSampleRefIdeal := hInSampleRefIdeal)
    ∧ preserves_Route_RouteIdeal
    ∧ algebraic_RouteIdeal_RouteRefIdeal_pre_all_finite (hRouteIdeal := hRouteIdeal) (hRouteRefIdeal := hRouteRefIdeal) (hPre_all_finite := hPre_all_finite)
-- ==== Pre_all_finite.lean ====
abbrev S8x4096x1024 : Shape := ⟨3, ![8, 4096, 1024]⟩
abbrev S1024x2048 : Shape := ⟨2, ![1024, 2048]⟩
abbrev S2x128x128 : Shape := ⟨3, ![2, 128, 128]⟩
abbrev S_ : Shape := ⟨0, ![]⟩

class Facts : Prop where
  bcast_S_S8x4096x1024 : S_.BroadcastsInDim S8x4096x1024 (![] : Fin 0 → Fin S8x4096x1024.rank)
  bcast_S_S1024x2048 : S_.BroadcastsInDim S1024x2048 (![] : Fin 0 → Fin S1024x2048.rank)
  bcast_S_S2x128x128 : S_.BroadcastsInDim S2x128x128 (![] : Fin 0 → Fin S2x128x128.rank)

variable [Facts]

def fn {F : FTy → Type} [FloatOps F] (main_arg0 : FVec F S8x4096x1024 .f32) (main_arg1 : FVec F S1024x2048 .f32) (main_arg2 : FVec F S2x128x128 .f32) : IVec S8x4096x1024 1 × IVec S1024x2048 1 × IVec S2x128x128 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1024x2048 .f32 := Host.absf main_arg1
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S2x128x128 .f32 := Host.absf main_arg2
  let main_cst_1 : FVec F S_ .f32 := constant S_ .f32 0x7F800000#32
  let main_v7 : FVec F S2x128x128 .f32 := broadcastInDim S2x128x128 ![] bcast_S_S2x128x128 main_cst_1
  let main_v8 : IVec S2x128x128 1 := cmpf .olt main_v6 main_v7
  (main_v2, main_v5, main_v8)
-- ==== MemKv.lean ====
abbrev S8x256x1024 : Shape := ⟨3, ![8, 256, 1024]⟩
abbrev S1024x2048 : Shape := ⟨2, ![1024, 2048]⟩
abbrev S2048x1024 : Shape := ⟨2, ![2048, 1024]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S2048x1024, .f32⟩
  | .hbm, ⟨3, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S8x256x1024 : Shape := ⟨3, ![8, 256, 1024]⟩
abbrev S1024x2048 : Shape := ⟨2, ![1024, 2048]⟩
abbrev S8x256x2048 : Shape := ⟨3, ![8, 256, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S8x256x2048, .f32⟩
  | .hbm, ⟨3, _⟩ => ⟨S2048x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProj.lean ====
abbrev S8x4096x1024 : Shape := ⟨3, ![8, 4096, 1024]⟩
abbrev S1024x3360 : Shape := ⟨2, ![1024, 3360]⟩
abbrev S32768x1024 : Shape := ⟨2, ![32768, 1024]⟩
abbrev S1024x1824 : Shape := ⟨2, ![1024, 1824]⟩
abbrev S1024x512 : Shape := ⟨2, ![1024, 512]⟩
abbrev S32768x1824 : Shape := ⟨2, ![32768, 1824]⟩
abbrev S32768x512 : Shape := ⟨2, ![32768, 512]⟩
abbrev S512x1024 : Shape := ⟨2, ![512, 1024]⟩
abbrev S512x1824 : Shape := ⟨2, ![512, 1824]⟩
abbrev S512x512 : Shape := ⟨2, ![512, 512]⟩
abbrev S4096 : Shape := ⟨1, ![4096]⟩
abbrev S_ : Shape := ⟨0, ![]⟩
abbrev S8x4096x8x64 : Shape := ⟨4, ![8, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩

abbrev nBuf : Space → Nat
  | .hbm => 80
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024x3360, .f32⟩
  | .hbm, ⟨2, _⟩ => ⟨S32768x1024, .f32⟩
  | .hbm, ⟨3, _⟩ => ⟨S1024x3360, .bf16⟩
  | .hbm, ⟨4, _⟩ => ⟨S1024x1824, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S32768x1824, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S8x4096x8x64, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S1x4096x1x32, .f32⟩
  | .hbm, ⟨33, _⟩ => ⟨S4096x32, .f32⟩
  | .hbm, ⟨34, _⟩ => ⟨S1x4096x1x32, .f32⟩
  | .hbm, ⟨35, _⟩ => ⟨S8x4096x8x32, .f32⟩
  | .hbm, ⟨36, _⟩ => ⟨S8x4096x8x32, .f32⟩
  | .hbm, ⟨37, _⟩ => ⟨S8x4096x8x32, .f32⟩
  | .hbm, ⟨38, _⟩ => ⟨S8x4096x8x32, .f32⟩
  | .hbm, ⟨39, _⟩ => ⟨S8x4096x8x32, .f32⟩
  | .hbm, ⟨40, _⟩ => ⟨S8x4096x8x32, .f32⟩
  | .hbm, ⟨41, _⟩ => ⟨S8x4096x8x32, .f32⟩
  | .hbm, ⟨42, _⟩ => ⟨S8x4096x8x32, .f32⟩
  | .hbm, ⟨43, _⟩ => ⟨S8x4096x8x32, .f32⟩
  | .hbm, ⟨44, _⟩ => ⟨S8x4096x8x32, .f32⟩
  | .hbm, ⟨45, _⟩ => ⟨S8x4096x8x32, .f32⟩
  | .hbm, ⟨46, _⟩ => ⟨S8x4096x8x32, .f32⟩
  | .hbm, ⟨47, _⟩ => ⟨S8x4096x8x64, .f32⟩
  | .hbm, ⟨48, _⟩ => ⟨S8x4096x8x64, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S4096, .f32⟩
  | .hbm, ⟨58, _⟩ => ⟨S4096x1, .f32⟩
  | .hbm, ⟨59, _⟩ => ⟨S1x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S1x4096x1x32, .f32⟩
  | .hbm, ⟨65, _⟩ => ⟨S4096x32, .f32⟩
  | .hbm, ⟨66, _⟩ => ⟨S1x4096x1x32, .f32⟩
  | .hbm, ⟨67, _⟩ => ⟨S8x4096x8x32, .f32⟩
  | .hbm, ⟨68, _⟩ => ⟨S8x4096x8x32, .f32⟩
  | .hbm, ⟨69, _⟩ => ⟨S8x4096x8x32, .f32⟩
  | .hbm, ⟨70, _⟩ => ⟨S8x4096x8x32, .f32⟩
  | .hbm, ⟨71, _⟩ => ⟨S8x4096x8x32, .f32⟩
  | .hbm, ⟨72, _⟩ => ⟨S8x4096x8x32, .f32⟩
  | .hbm, ⟨73, _⟩ => ⟨S8x4096x8x32, .f32⟩
  | .hbm, ⟨74, _⟩ => ⟨S8x4096x8x32, .f32⟩
  | .hbm, ⟨75, _⟩ => ⟨S8x4096x8x32, .f32⟩
  | .hbm, ⟨76, _⟩ => ⟨S8x4096x8x32, .f32⟩
  | .hbm, ⟨77, _⟩ => ⟨S8x4096x8x32, .f32⟩
  | .hbm, ⟨78, _⟩ => ⟨S8x4096x8x32, .f32⟩
  | .hbm, ⟨79, _⟩ => ⟨S8x4096x8x64, .f32⟩
  | .local _ .vmem, ⟨0, _⟩ => ⟨S512x1024, .f32⟩
  | .local _ .vmem, ⟨1, _⟩ => ⟨S512x1024, .f32⟩
  | .local _ .vmem, ⟨2, _⟩ => ⟨S1024x1824, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1824, .f32⟩
  | .local _ .vmem, ⟨7, _⟩ => ⟨S512x1824, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev main_v6_3 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_1 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1824 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1824 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S8x4096x1024 : Shape := ⟨3, ![8, 4096, 1024]⟩
abbrev S1024x3360 : Shape := ⟨2, ![1024, 3360]⟩
abbrev S8x4096x3360 : Shape := ⟨3, ![8, 4096, 3360]⟩
abbrev S8x4096x1536 : Shape := ⟨3, ![8, 4096, 1536]⟩
abbrev S8x4096x512 : Shape := ⟨3, ![8, 4096, 512]⟩
abbrev S4096 : Shape := ⟨1, ![4096]⟩
abbrev S_ : Shape := ⟨0, ![]⟩
abbrev S8x4096x1824 : Shape := ⟨3, ![8, 4096, 1824]⟩
abbrev S32768x1824 : Shape := ⟨2, ![32768, 1824]⟩
abbrev S8x4096x8x64 : Shape := ⟨4, ![8, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S32768x512 : Shape := ⟨2, ![32768, 512]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3360, .f32⟩
  | .hbm, ⟨2, _⟩ => ⟨S8x4096x3360, .f32⟩
  | .hbm, ⟨3, _⟩ => ⟨S8x4096x1536, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S8x4096x1824, .f32⟩
  | .hbm, ⟨12, _⟩ => ⟨S32768x1824, .f32⟩
  | .hbm, ⟨13, _⟩ => ⟨S8x4096x8x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x4096x1x32, .f32⟩
  | .hbm, ⟨30, _⟩ => ⟨S4096x32, .f32⟩
  | .hbm, ⟨31, _⟩ => ⟨S1x4096x1x32, .f32⟩
  | .hbm, ⟨32, _⟩ => ⟨S8x4096x8x32, .f32⟩
  | .hbm, ⟨33, _⟩ => ⟨S8x4096x8x32, .f32⟩
  | .hbm, ⟨34, _⟩ => ⟨S8x4096x8x32, .f32⟩
  | .hbm, ⟨35, _⟩ => ⟨S8x4096x8x32, .f32⟩
  | .hbm, ⟨36, _⟩ => ⟨S8x4096x8x32, .f32⟩
  | .hbm, ⟨37, _⟩ => ⟨S8x4096x8x32, .f32⟩
  | .hbm, ⟨38, _⟩ => ⟨S8x4096x8x32, .f32⟩
  | .hbm, ⟨39, _⟩ => ⟨S8x4096x8x32, .f32⟩
  | .hbm, ⟨40, _⟩ => ⟨S8x4096x8x32, .f32⟩
  | .hbm, ⟨41, _⟩ => ⟨S8x4096x8x32, .f32⟩
  | .hbm, ⟨42, _⟩ => ⟨S8x4096x8x32, .f32⟩
  | .hbm, ⟨43, _⟩ => ⟨S8x4096x8x32, .f32⟩
  | .hbm, ⟨44, _⟩ => ⟨S8x4096x8x64, .f32⟩
  | .hbm, ⟨45, _⟩ => ⟨S8x4096x8x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S4096, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S1x4096x1x32, .f32⟩
  | .hbm, ⟨62, _⟩ => ⟨S4096x32, .f32⟩
  | .hbm, ⟨63, _⟩ => ⟨S1x4096x1x32, .f32⟩
  | .hbm, ⟨64, _⟩ => ⟨S8x4096x8x32, .f32⟩
  | .hbm, ⟨65, _⟩ => ⟨S8x4096x8x32, .f32⟩
  | .hbm, ⟨66, _⟩ => ⟨S8x4096x8x32, .f32⟩
  | .hbm, ⟨67, _⟩ => ⟨S8x4096x8x32, .f32⟩
  | .hbm, ⟨68, _⟩ => ⟨S8x4096x8x32, .f32⟩
  | .hbm, ⟨69, _⟩ => ⟨S8x4096x8x32, .f32⟩
  | .hbm, ⟨70, _⟩ => ⟨S8x4096x8x32, .f32⟩
  | .hbm, ⟨71, _⟩ => ⟨S8x4096x8x32, .f32⟩
  | .hbm, ⟨72, _⟩ => ⟨S8x4096x8x32, .f32⟩
  | .hbm, ⟨73, _⟩ => ⟨S8x4096x8x32, .f32⟩
  | .hbm, ⟨74, _⟩ => ⟨S8x4096x8x32, .f32⟩
  | .hbm, ⟨75, _⟩ => ⟨S8x4096x8x32, .f32⟩
  | .hbm, ⟨76, _⟩ => ⟨S8x4096x8x64, .f32⟩
  | .hbm, ⟨77, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_1 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩

abbrev nD : Nat := 1
abbrev τ : Topo := Topo.v7x

variable {F : FTy → Type} [FloatOps F]
-- ==== ProjLn.lean ====
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S1024x1024, .f32⟩
  | .hbm, ⟨3, _⟩ => ⟨S8x4096x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S32768x1024, .f32⟩
  | .hbm, ⟨8, _⟩ => ⟨S1024x1024, .bf16⟩
  | .hbm, ⟨9, _⟩ => ⟨S32768x1024, .f32⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjLnRefIdeal.lean ====
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S1024x1024, .f32⟩
  | .hbm, ⟨3, _⟩ => ⟨S8x4096x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S32768x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== MemAttn.lean ====
abbrev S8x4096x1024 : Shape := ⟨3, ![8, 4096, 1024]⟩
abbrev S8x256x4x256 : Shape := ⟨4, ![8, 256, 4, 256]⟩
abbrev S1024x1024 : Shape := ⟨2, ![1024, 1024]⟩
abbrev S1024 : Shape := ⟨1, ![1024]⟩
abbrev S8x256x1024 : Shape := ⟨3, ![8, 256, 1024]⟩
abbrev S1x1024 : Shape := ⟨2, ![1, 1024]⟩
abbrev S1x512x1024 : Shape := ⟨3, ![1, 512, 1024]⟩
abbrev S1x256x1024 : Shape := ⟨3, ![1, 256, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x256x4x256, .f32⟩
  | .hbm, ⟨2, _⟩ => ⟨S8x256x4x256, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S8x256x1024, .f32⟩
  | .hbm, ⟨10, _⟩ => ⟨S8x256x1024, .f32⟩
  | .hbm, ⟨11, _⟩ => ⟨S1x1024, .f32⟩
  | .hbm, ⟨12, _⟩ => ⟨S1x1024, .f32⟩
  | .hbm, ⟨13, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MemAttnRefIdeal.lean ====
abbrev S8x4096x1024 : Shape := ⟨3, ![8, 4096, 1024]⟩
abbrev S8x256x4x256 : Shape := ⟨4, ![8, 256, 4, 256]⟩
abbrev S1024x1024 : Shape := ⟨2, ![1024, 1024]⟩
abbrev S1024 : Shape := ⟨1, ![1024]⟩
abbrev S8x4096x4x256 : Shape := ⟨4, ![8, 4096, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x4x256, .f32⟩
  | .hbm, ⟨2, _⟩ => ⟨S8x256x4x256, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x4096x1024, .f32⟩
  | .hbm, ⟨8, _⟩ => ⟨S8x4096x4x256, .f32⟩
  | .hbm, ⟨9, _⟩ => ⟨S8x4x4096x256, .f32⟩
  | .hbm, ⟨10, _⟩ => ⟨S_, .f32⟩
  | .hbm, ⟨11, _⟩ => ⟨S8x4x4096x256, .f32⟩
  | .hbm, ⟨12, _⟩ => ⟨S8x4x4096x256, .f32⟩
  | .hbm, ⟨13, _⟩ => ⟨S_, .f32⟩
  | .hbm, ⟨14, _⟩ => ⟨S8x4x4096, .f32⟩
  | .hbm, ⟨15, _⟩ => ⟨S_, .f32⟩
  | .hbm, ⟨16, _⟩ => ⟨S8x4x4096, .f32⟩
  | .hbm, ⟨17, _⟩ => ⟨S8x4x4096, .f32⟩
  | .hbm, ⟨18, _⟩ => ⟨S8x4x4096x1, .f32⟩
  | .hbm, ⟨19, _⟩ => ⟨S8x4x4096x256, .f32⟩
  | .hbm, ⟨20, _⟩ => ⟨S8x4x4096x256, .f32⟩
  | .hbm, ⟨21, _⟩ => ⟨S8x4x4096x256, .f32⟩
  | .hbm, ⟨22, _⟩ => ⟨S_, .f32⟩
  | .hbm, ⟨23, _⟩ => ⟨S8x4x4096, .f32⟩
  | .hbm, ⟨24, _⟩ => ⟨S8x4x4096x1, .f32⟩
  | .hbm, ⟨25, _⟩ => ⟨S8x4x4096x256, .f32⟩
  | .hbm, ⟨26, _⟩ => ⟨S8x4x4096x256, .f32⟩
  | .hbm, ⟨27, _⟩ => ⟨S8x4x256x4096, .f32⟩
  | .hbm, ⟨28, _⟩ => ⟨S8x4096x4x256, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== InSample.lean ====
abbrev S32x1x1024 : Shape := ⟨3, ![32, 1, 1024]⟩
abbrev S1024x3360 : Shape := ⟨2, ![1024, 3360]⟩
abbrev S32x1024 : Shape := ⟨2, ![32, 1024]⟩
abbrev S1024x1824 : Shape := ⟨2, ![1024, 1824]⟩
abbrev S1024x512 : Shape := ⟨2, ![1024, 512]⟩
abbrev S32x1824 : Shape := ⟨2, ![32, 1824]⟩
abbrev S32x512 : Shape := ⟨2, ![32, 512]⟩
abbrev S1 : Shape := ⟨1, ![1]⟩
abbrev S_ : Shape := ⟨0, ![]⟩
abbrev S32x1x8x64 : Shape := ⟨4, ![32, 1, 8, 64]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S32x1x8x32 : Shape := ⟨4, ![32, 1, 8, 32]⟩

abbrev nBuf : Space → Nat
  | .hbm => 78
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S1024x3360, .f32⟩
  | .hbm, ⟨2, _⟩ => ⟨S32x1024, .f32⟩
  | .hbm, ⟨3, _⟩ => ⟨S1024x3360, .bf16⟩
  | .hbm, ⟨4, _⟩ => ⟨S1024x1824, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S32x1824, .f32⟩
  | .hbm, ⟨9, _⟩ => ⟨S32x512, .f32⟩
  | .hbm, ⟨10, _⟩ => ⟨S32x512, .f32⟩
  | .hbm, ⟨11, _⟩ => ⟨S32x512, .f32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S32x1x8x64, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S1, .f32⟩
  | .hbm, ⟨26, _⟩ => ⟨S1x1, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x1x1x32, .f32⟩
  | .hbm, ⟨32, _⟩ => ⟨S1x32, .f32⟩
  | .hbm, ⟨33, _⟩ => ⟨S1x1x1x32, .f32⟩
  | .hbm, ⟨34, _⟩ => ⟨S32x1x8x32, .f32⟩
  | .hbm, ⟨35, _⟩ => ⟨S32x1x8x32, .f32⟩
  | .hbm, ⟨36, _⟩ => ⟨S32x1x8x32, .f32⟩
  | .hbm, ⟨37, _⟩ => ⟨S32x1x8x32, .f32⟩
  | .hbm, ⟨38, _⟩ => ⟨S32x1x8x32, .f32⟩
  | .hbm, ⟨39, _⟩ => ⟨S32x1x8x32, .f32⟩
  | .hbm, ⟨40, _⟩ => ⟨S32x1x8x32, .f32⟩
  | .hbm, ⟨41, _⟩ => ⟨S32x1x8x32, .f32⟩
  | .hbm, ⟨42, _⟩ => ⟨S32x1x8x32, .f32⟩
  | .hbm, ⟨43, _⟩ => ⟨S32x1x8x32, .f32⟩
  | .hbm, ⟨44, _⟩ => ⟨S32x1x8x32, .f32⟩
  | .hbm, ⟨45, _⟩ => ⟨S32x1x8x32, .f32⟩
  | .hbm, ⟨46, _⟩ => ⟨S32x1x8x64, .f32⟩
  | .hbm, ⟨47, _⟩ => ⟨S32x1x8x64, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S1, .f32⟩
  | .hbm, ⟨57, _⟩ => ⟨S1x1, .f32⟩
  | .hbm, ⟨58, _⟩ => ⟨S1x32, .f32⟩
  | .hbm, ⟨59, _⟩ => ⟨S1x32, .f32⟩
  | .hbm, ⟨60, _⟩ => ⟨S1x32, .f32⟩
  | .hbm, ⟨61, _⟩ => ⟨S1x32, .f32⟩
  | .hbm, ⟨62, _⟩ => ⟨S1x1x1x32, .f32⟩
  | .hbm, ⟨63, _⟩ => ⟨S1x32, .f32⟩
  | .hbm, ⟨64, _⟩ => ⟨S1x1x1x32, .f32⟩
  | .hbm, ⟨65, _⟩ => ⟨S32x1x8x32, .f32⟩
  | .hbm, ⟨66, _⟩ => ⟨S32x1x8x32, .f32⟩
  | .hbm, ⟨67, _⟩ => ⟨S32x1x8x32, .f32⟩
  | .hbm, ⟨68, _⟩ => ⟨S32x1x8x32, .f32⟩
  | .hbm, ⟨69, _⟩ => ⟨S32x1x8x32, .f32⟩
  | .hbm, ⟨70, _⟩ => ⟨S32x1x8x32, .f32⟩
  | .hbm, ⟨71, _⟩ => ⟨S32x1x8x32, .f32⟩
  | .hbm, ⟨72, _⟩ => ⟨S32x1x8x32, .f32⟩
  | .hbm, ⟨73, _⟩ => ⟨S32x1x8x32, .f32⟩
  | .hbm, ⟨74, _⟩ => ⟨S32x1x8x32, .f32⟩
  | .hbm, ⟨75, _⟩ => ⟨S32x1x8x32, .f32⟩
  | .hbm, ⟨76, _⟩ => ⟨S32x1x8x32, .f32⟩
  | .hbm, ⟨77, _⟩ => ⟨S32x1x8x64, .f32⟩
  | .local _ .vmem, ⟨0, _⟩ => ⟨S32x1024, .f32⟩
  | .local _ .vmem, ⟨1, _⟩ => ⟨S1024x1824, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S32x1824, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev main_v6_3 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_1 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1824 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1824 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== InSampleRefIdeal.lean ====
abbrev S32x1x1024 : Shape := ⟨3, ![32, 1, 1024]⟩
abbrev S1024x3360 : Shape := ⟨2, ![1024, 3360]⟩
abbrev S32x1x3360 : Shape := ⟨3, ![32, 1, 3360]⟩
abbrev S32x1x1536 : Shape := ⟨3, ![32, 1, 1536]⟩
abbrev S32x1x512 : Shape := ⟨3, ![32, 1, 512]⟩
abbrev S1 : Shape := ⟨1, ![1]⟩
abbrev S_ : Shape := ⟨0, ![]⟩
abbrev S32x1x1824 : Shape := ⟨3, ![32, 1, 1824]⟩
abbrev S32x1824 : Shape := ⟨2, ![32, 1824]⟩
abbrev S32x1x8x64 : Shape := ⟨4, ![32, 1, 8, 64]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S32x1x8x32 : Shape := ⟨4, ![32, 1, 8, 32]⟩
abbrev S32x512 : Shape := ⟨2, ![32, 512]⟩

abbrev nBuf : Space → Nat
  | .hbm => 76
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024x3360, .f32⟩
  | .hbm, ⟨2, _⟩ => ⟨S32x1x3360, .f32⟩
  | .hbm, ⟨3, _⟩ => ⟨S32x1x1536, .f32⟩
  | .hbm, ⟨4, _⟩ => ⟨S32x1x512, .f32⟩
  | .hbm, ⟨5, _⟩ => ⟨S32x1x512, .f32⟩
  | .hbm, ⟨6, _⟩ => ⟨S32x1x512, .f32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S32x1x1824, .f32⟩
  | .hbm, ⟨12, _⟩ => ⟨S32x1824, .f32⟩
  | .hbm, ⟨13, _⟩ => ⟨S32x1x8x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1, .f32⟩
  | .hbm, ⟨23, _⟩ => ⟨S1x1, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S1x1x1x32, .f32⟩
  | .hbm, ⟨29, _⟩ => ⟨S1x32, .f32⟩
  | .hbm, ⟨30, _⟩ => ⟨S1x1x1x32, .f32⟩
  | .hbm, ⟨31, _⟩ => ⟨S32x1x8x32, .f32⟩
  | .hbm, ⟨32, _⟩ => ⟨S32x1x8x32, .f32⟩
  | .hbm, ⟨33, _⟩ => ⟨S32x1x8x32, .f32⟩
  | .hbm, ⟨34, _⟩ => ⟨S32x1x8x32, .f32⟩
  | .hbm, ⟨35, _⟩ => ⟨S32x1x8x32, .f32⟩
  | .hbm, ⟨36, _⟩ => ⟨S32x1x8x32, .f32⟩
  | .hbm, ⟨37, _⟩ => ⟨S32x1x8x32, .f32⟩
  | .hbm, ⟨38, _⟩ => ⟨S32x1x8x32, .f32⟩
  | .hbm, ⟨39, _⟩ => ⟨S32x1x8x32, .f32⟩
  | .hbm, ⟨40, _⟩ => ⟨S32x1x8x32, .f32⟩
  | .hbm, ⟨41, _⟩ => ⟨S32x1x8x32, .f32⟩
  | .hbm, ⟨42, _⟩ => ⟨S32x1x8x32, .f32⟩
  | .hbm, ⟨43, _⟩ => ⟨S32x1x8x64, .f32⟩
  | .hbm, ⟨44, _⟩ => ⟨S32x1x8x64, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S1, .f32⟩
  | .hbm, ⟨54, _⟩ => ⟨S1x1, .f32⟩
  | .hbm, ⟨55, _⟩ => ⟨S1x32, .f32⟩
  | .hbm, ⟨56, _⟩ => ⟨S1x32, .f32⟩
  | .hbm, ⟨57, _⟩ => ⟨S1x32, .f32⟩
  | .hbm, ⟨58, _⟩ => ⟨S1x32, .f32⟩
  | .hbm, ⟨59, _⟩ => ⟨S1x1x1x32, .f32⟩
  | .hbm, ⟨60, _⟩ => ⟨S1x32, .f32⟩
  | .hbm, ⟨61, _⟩ => ⟨S1x1x1x32, .f32⟩
  | .hbm, ⟨62, _⟩ => ⟨S32x1x8x32, .f32⟩
  | .hbm, ⟨63, _⟩ => ⟨S32x1x8x32, .f32⟩
  | .hbm, ⟨64, _⟩ => ⟨S32x1x8x32, .f32⟩
  | .hbm, ⟨65, _⟩ => ⟨S32x1x8x32, .f32⟩
  | .hbm, ⟨66, _⟩ => ⟨S32x1x8x32, .f32⟩
  | .hbm, ⟨67, _⟩ => ⟨S32x1x8x32, .f32⟩
  | .hbm, ⟨68, _⟩ => ⟨S32x1x8x32, .f32⟩
  | .hbm, ⟨69, _⟩ => ⟨S32x1x8x32, .f32⟩
  | .hbm, ⟨70, _⟩ => ⟨S32x1x8x32, .f32⟩
  | .hbm, ⟨71, _⟩ => ⟨S32x1x8x32, .f32⟩
  | .hbm, ⟨72, _⟩ => ⟨S32x1x8x32, .f32⟩
  | .hbm, ⟨73, _⟩ => ⟨S32x1x8x32, .f32⟩
  | .hbm, ⟨74, _⟩ => ⟨S32x1x8x64, .f32⟩
  | .hbm, ⟨75, _⟩ => ⟨S32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩

abbrev nD : Nat := 1
abbrev τ : Topo := Topo.v7x

variable {F : FTy → Type} [FloatOps F]
-- ==== Route.lean ====
abbrev S8x4096x1024 : Shape := ⟨3, ![8, 4096, 1024]⟩
abbrev S1024x2048 : Shape := ⟨2, ![1024, 2048]⟩
abbrev S2x128x128 : Shape := ⟨3, ![2, 128, 128]⟩
abbrev S32768x1024 : Shape := ⟨2, ![32768, 1024]⟩
abbrev S128x32768 : Shape := ⟨2, ![128, 32768]⟩
abbrev S256x1024 : Shape := ⟨2, ![256, 1024]⟩
abbrev S128x256 : Shape := ⟨2, ![128, 256]⟩
abbrev S256x2048 : Shape := ⟨2, ![256, 2048]⟩
abbrev S256x128 : Shape := ⟨2, ![256, 128]⟩
abbrev S1x128x128 : Shape := ⟨3, ![1, 128, 128]⟩
abbrev S128x128 : Shape := ⟨2, ![128, 128]⟩
abbrev S256 : Shape := ⟨1, ![256]⟩
abbrev S1x256 : Shape := ⟨2, ![1, 256]⟩
abbrev S16x256 : Shape := ⟨2, ![16, 256]⟩
abbrev S8x256 : Shape := ⟨2, ![8, 256]⟩
abbrev S136x256 : Shape := ⟨2, ![136, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S2x128x128, .f32⟩
  | .hbm, ⟨3, _⟩ => ⟨S32768x1024, .f32⟩
  | .hbm, ⟨4, _⟩ => ⟨S1024x2048, .bf16⟩
  | .hbm, ⟨5, _⟩ => ⟨S2x128x128, .bf16⟩
  | .hbm, ⟨6, _⟩ => ⟨S128x32768, .i32⟩
  | .hbm, ⟨7, _⟩ => ⟨S128x32768, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S2x128x128, .bf16⟩
  | .local _ .vmem, ⟨4, _⟩ => ⟨S128x256, .i32⟩
  | .local _ .vmem, ⟨5, _⟩ => ⟨S128x256, .i32⟩
  | .local _ .vmem, ⟨6, _⟩ => ⟨S128x256, .f32⟩
  | .local _ .vmem, ⟨7, _⟩ => ⟨S128x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouteRefIdeal.lean ====
abbrev S8x4096x1024 : Shape := ⟨3, ![8, 4096, 1024]⟩
abbrev S1024x2048 : Shape := ⟨2, ![1024, 2048]⟩
abbrev S2x128x128 : Shape := ⟨3, ![2, 128, 128]⟩
abbrev S32768x1024 : Shape := ⟨2, ![32768, 1024]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S1x128x128 : Shape := ⟨3, ![1, 128, 128]⟩
abbrev S128x128 : Shape := ⟨2, ![128, 128]⟩
abbrev S32768x8x16 : Shape := ⟨3, ![32768, 8, 16]⟩
abbrev S32768x8x16x1 : Shape := ⟨4, ![32768, 8, 16, 1]⟩
abbrev S32768x8x1x16 : Shape := ⟨4, ![32768, 8, 1, 16]⟩
abbrev S32768x8x16x16 : Shape := ⟨4, ![32768, 8, 16, 16]⟩
abbrev S32768x8x256 : Shape := ⟨3, ![32768, 8, 256]⟩
abbrev S_ : Shape := ⟨0, ![]⟩
abbrev S1 : Shape := ⟨1, ![1]⟩
abbrev S1x1x1x1 : Shape := ⟨4, ![1, 1, 1, 1]⟩
abbrev S32768x8 : Shape := ⟨2, ![32768, 8]⟩
abbrev S32768x8x1 : Shape := ⟨3, ![32768, 8, 1]⟩
abbrev S32768x128 : Shape := ⟨2, ![32768, 128]⟩
abbrev S128x32768 : Shape := ⟨2, ![128, 32768]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S2x128x128, .f32⟩
  | .hbm, ⟨3, _⟩ => ⟨S32768x1024, .f32⟩
  | .hbm, ⟨4, _⟩ => ⟨S32768x2048, .f32⟩
  | .hbm, ⟨5, _⟩ => ⟨S32768x8x2x128, .f32⟩
  | .hbm, ⟨6, _⟩ => ⟨S32768x8x1x128, .f32⟩
  | .hbm, ⟨7, _⟩ => ⟨S32768x8x128, .f32⟩
  | .hbm, ⟨8, _⟩ => ⟨S1x128x128, .f32⟩
  | .hbm, ⟨9, _⟩ => ⟨S128x128, .f32⟩
  | .hbm, ⟨10, _⟩ => ⟨S32768x8x128, .f32⟩
  | .hbm, ⟨11, _⟩ => ⟨S32768x8x1x128, .f32⟩
  | .hbm, ⟨12, _⟩ => ⟨S32768x8x128, .f32⟩
  | .hbm, ⟨13, _⟩ => ⟨S1x128x128, .f32⟩
  | .hbm, ⟨14, _⟩ => ⟨S128x128, .f32⟩
  | .hbm, ⟨15, _⟩ => ⟨S32768x8x128, .f32⟩
  | .hbm, ⟨16, _⟩ => ⟨S32768x8x16, .f32⟩
  | .hbm, ⟨17, _⟩ => ⟨S32768x8x16, .i32⟩
  | .hbm, ⟨18, _⟩ => ⟨S32768x8x16, .f32⟩
  | .hbm, ⟨19, _⟩ => ⟨S32768x8x16, .i32⟩
  | .hbm, ⟨20, _⟩ => ⟨S32768x8x16x1, .f32⟩
  | .hbm, ⟨21, _⟩ => ⟨S32768x8x1x16, .f32⟩
  | .hbm, ⟨22, _⟩ => ⟨S32768x8x16x16, .f32⟩
  | .hbm, ⟨23, _⟩ => ⟨S32768x8x16x16, .f32⟩
  | .hbm, ⟨24, _⟩ => ⟨S32768x8x16x16, .f32⟩
  | .hbm, ⟨25, _⟩ => ⟨S32768x8x256, .f32⟩
  | .hbm, ⟨26, _⟩ => ⟨S32768x8x16x1, .i32⟩
  | .hbm, ⟨27, _⟩ => ⟨S_, .i32⟩
  | .hbm, ⟨28, _⟩ => ⟨S32768x8x16x1, .i32⟩
  | .hbm, ⟨29, _⟩ => ⟨S32768x8x16x1, .i32⟩
  | .hbm, ⟨30, _⟩ => ⟨S32768x8x1x16, .i32⟩
  | .hbm, ⟨31, _⟩ => ⟨S32768x8x16x16, .i32⟩
  | .hbm, ⟨32, _⟩ => ⟨S32768x8x16x16, .i32⟩
  | .hbm, ⟨33, _⟩ => ⟨S32768x8x16x16, .i32⟩
  | .hbm, ⟨34, _⟩ => ⟨S32768x8x256, .i32⟩
  | .hbm, ⟨35, _⟩ => ⟨S32768x8x16, .f32⟩
  | .hbm, ⟨36, _⟩ => ⟨S32768x8x16, .i32⟩
  | .hbm, ⟨37, _⟩ => ⟨S_, .i32⟩
  | .hbm, ⟨38, _⟩ => ⟨S32768x8x16, .i32⟩
  | .hbm, ⟨39, _⟩ => ⟨S32768x8x16, .i1⟩
  | .hbm, ⟨40, _⟩ => ⟨S_, .i32⟩
  | .hbm, ⟨41, _⟩ => ⟨S32768x8x16, .i32⟩
  | .hbm, ⟨42, _⟩ => ⟨S32768x8x16, .i32⟩
  | .hbm, ⟨43, _⟩ => ⟨S32768x8x16, .i32⟩
  | .hbm, ⟨44, _⟩ => ⟨S32768x8x16x1, .i32⟩
  | .hbm, ⟨45, _⟩ => ⟨S1, .i32⟩
  | .hbm, ⟨46, _⟩ => ⟨S_, .i32⟩
  | .hbm, ⟨47, _⟩ => ⟨S32768x8x16x1, .i32⟩
  | .hbm, ⟨48, _⟩ => ⟨S32768x8x16x1, .i1⟩
  | .hbm, ⟨49, _⟩ => ⟨S1x1x1x1, .i32⟩
  | .hbm, ⟨50, _⟩ => ⟨S32768x8x16x1, .i32⟩
  | .hbm, ⟨51, _⟩ => ⟨S32768x8x16x1, .i1⟩
  | .hbm, ⟨52, _⟩ => ⟨S32768x8x16x1, .i1⟩
  | .hbm, ⟨53, _⟩ => ⟨S_, .i1⟩
  | .hbm, ⟨54, _⟩ => ⟨S32768x8x16, .i1⟩
  | .hbm, ⟨55, _⟩ => ⟨S32768x8x16, .i32⟩
  | .hbm, ⟨56, _⟩ => ⟨S_, .i32⟩
  | .hbm, ⟨57, _⟩ => ⟨S32768x8x16, .i32⟩
  | .hbm, ⟨58, _⟩ => ⟨S32768x8x16, .i32⟩
  | .hbm, ⟨59, _⟩ => ⟨S_, .f32⟩
  | .hbm, ⟨60, _⟩ => ⟨S32768x8, .f32⟩
  | .hbm, ⟨61, _⟩ => ⟨S_, .f32⟩
  | .hbm, ⟨62, _⟩ => ⟨S32768x8, .f32⟩
  | .hbm, ⟨63, _⟩ => ⟨S32768x8, .f32⟩
  | .hbm, ⟨64, _⟩ => ⟨S32768x8x1, .f32⟩
  | .hbm, ⟨65, _⟩ => ⟨S32768x8x16, .f32⟩
  | .hbm, ⟨66, _⟩ => ⟨S32768x8x16, .f32⟩
  | .hbm, ⟨67, _⟩ => ⟨S32768x8x16, .f32⟩
  | .hbm, ⟨68, _⟩ => ⟨S_, .f32⟩
  | .hbm, ⟨69, _⟩ => ⟨S32768x8, .f32⟩
  | .hbm, ⟨70, _⟩ => ⟨S32768x8x1, .f32⟩
  | .hbm, ⟨71, _⟩ => ⟨S32768x8x16, .f32⟩
  | .hbm, ⟨72, _⟩ => ⟨S32768x8x16, .f32⟩
  | .hbm, ⟨73, _⟩ => ⟨S32768x128, .i32⟩
  | .hbm, ⟨74, _⟩ => ⟨S128x32768, .i32⟩
  | .hbm, ⟨75, _⟩ => ⟨S32768x128, .f32⟩
  | .hbm, ⟨76, _⟩ => ⟨S128x32768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_values : Ref sig .tc := ⟨.hbm, 16, rfl⟩
abbrev main_indices : Ref sig .tc := ⟨.hbm, 17, rfl⟩
abbrev main_values_0 : Ref sig .tc := ⟨.hbm, 18, rfl⟩
abbrev main_indices_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_values_2 : Ref sig .tc := ⟨.hbm, 35, rfl⟩
abbrev main_indices_3 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_c_4 : Ref sig .tc := ⟨.hbm, 56, rfl⟩
abbrev main_call0_v14 : Ref sig .tc := ⟨.hbm, 57, rfl⟩
abbrev main_v27 : Ref sig .tc := ⟨.hbm, 58, rfl⟩
abbrev main_cst : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩

abbrev nD : Nat := 1
abbrev τ : Topo := Topo.v7x

variable {F : FTy → Type} [FloatOps F]
-- ==== Proof.Common.lean ====
/- What the value proofs of the single calls share: a product of two matrices from a zero accumulator, read at an
   element. -/
module

public import Idealize.ShloMosaic.Lib.Pipeline.ValueKit
public import Idealize.ShloMosaic.Lib.Pointwise
public import Idealize.ShloMosaic.Lib.MatmulPlain

@[expose] public section

noncomputable section

open Idealize.ShloMosaic

namespace Cert.Proof.Common

/-- The two spellings of a matrix's index agree. -/
theorem ix2_eq {M N : ℕ} (r : Fin M) (c : Fin N) : ValueIdx.ix2 r c = ix2 r c := by
  funext a; match a with | ⟨0, _⟩ => rfl | ⟨1, _⟩ => rfl

/-- A product of matrices from a zero accumulator at an element. -/
theorem matmul_zero_apply {M K N : ℕ} {φ₁ φ₂ : FTy} (prec : Option ContractPrecision) (lhs : FVec Ideal ⟨2, ![M, K]⟩ φ₁)
    (rhs : FVec Ideal ⟨2, ![K, N]⟩ φ₂) (y : Shape.Idx ⟨2, ![M, N]⟩) :
    FloatOps.matmul (DotDims.plain M K N) prec lhs rhs (constant (F := Ideal) ⟨2, ![M, N]⟩ .f32 0x00000000#32) y
      = ∑ k : Fin K, lhs (ix2 (n0 := M) (y 0) k) * rhs (ix2 (n1 := N) k (y 1)) := by
  obtain ⟨r, c, rfl⟩ : ∃ (r : Fin M) (c : Fin N), y = ValueIdx.ix2 r c := ⟨y 0, y 1, ValueIdx.eq_ix2 y⟩
  rw [Ideal.matmul_plain_apply]
  show Ideal.ofBits .f32 0x00000000#32 + _ = _
  rw [Ideal.ofBits_zero_f32, zero_add]
  refine Finset.sum_congr rfl fun k _ => ?_
  rw [ix2_eq, ix2_eq]; rfl

/-- A product of a matrix with a transposed matrix from a zero accumulator at an element. -/
theorem matmul_transposed_zero_apply {M K N : ℕ} {φ₁ φ₂ : FTy} (prec : Option ContractPrecision) (lhs : FVec Ideal ⟨2, ![M, K]⟩ φ₁)
    (rhs : FVec Ideal ⟨2, ![N, K]⟩ φ₂) (y : Shape.Idx ⟨2, ![M, N]⟩) :
    FloatOps.matmul (DotDims.transposedRhs M K N) prec lhs rhs (constant (F := Ideal) ⟨2, ![M, N]⟩ .f32 0x00000000#32) y
      = ∑ k : Fin K, lhs (ix2 (n0 := M) (y 0) k) * rhs (ix2 (n0 := N) (y 1) k) := by
  obtain ⟨r, c, rfl⟩ : ∃ (r : Fin M) (c : Fin N), y = ValueIdx.ix2 r c := ⟨y 0, y 1, ValueIdx.eq_ix2 y⟩
  rw [Ideal.matmul_transposedRhs_apply]
  show Ideal.ofBits .f32 0x00000000#32 + _ = _
  rw [Ideal.ofBits_zero_f32, zero_add]
  refine Finset.sum_congr rfl fun k _ => ?_
  rw [ix2_eq, ix2_eq]; rfl

/-- A row of 1024 numbers normalised: its mean taken off, divided by its spread, scaled by `g` and moved by `b`, at position `j`. -/
def lnAt (z : Fin 1024 → EReal) (g b : EReal) (j : Fin 1024) : EReal :=
  (z j - Ideal.div (∑ k, z k) (Ideal.ofBits .f32 0x44800000#32))
    * Ideal.rsqrt (Ideal.div (∑ k, (z k - Ideal.div (∑ k, z k) (Ideal.ofBits .f32 0x44800000#32)) * (z k - Ideal.div (∑ k, z k) (Ideal.ofBits .f32 0x44800000#32)))
        (Ideal.ofBits .f32 0x44800000#32) + Ideal.ofBits .f32 0x3727C5AC#32) * g + b

theorem lnAt_congr {z z' : Fin 1024 → EReal} {g g' b b' : EReal} {j j' : Fin 1024} (hz : ∀ k, z k = z' k) (hg : g = g') (hb : b = b') (hj : j = j') :
    lnAt z g b j = lnAt z' g' b' j' := by
  obtain rfl : z = z' := funext hz
  rw [hg, hb, hj]

/-- Two arrays joined from equal parts are equal. -/
theorem join_congr {s t u : Shape} {d : Fin u.rank} {a a' : s.Idx → Ideal .f32} {b b' : t.Idx → Ideal .f32} (ha : a = a') (hb : b = b')
    (h : Shape.Concatenates [s, t] u d) : concatenate u d [⟨s, a⟩, ⟨t, b⟩] h = concatenate u d [⟨s, a'⟩, ⟨t, b'⟩] h := by
  subst ha hb; rfl

end Cert.Proof.Common
end
-- ==== Proof.MemKv.lean ====
/- The call `mem_kv`: at the ideal numbers the kernel's result array is the reference's product of the memory's rows with
   the weights. -/
module

public import proofs.«01_k».proof.Defs
public import proofs.«01_k».proof.Proof.Gen.MemKvIdeal.Value
public import proofs.«01_k».proof.Proof.Gen.MemKvRefIdeal.Read
public import Idealize.ShloMosaic.Lib.Pipeline.ValueKit
public import Idealize.ShloMosaic.Lib.Claim
public import Idealize.ShloMosaic.Lib.Pointwise
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Proof.Common

namespace Cert.Proof.MemKvValue

open Cert.MemKvIdeal Cert.MemKvIdeal.Gen Cert.MemKvIdeal.Value

variable (m : (ℓ : Loc nD τ sig) → Buf (Elt Ideal) ℓ) (ρ : Dev nD → PrngReg)

/-- The block indices of the three windows at every grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The body's product at an element. -/
theorem pay_apply (x : Vec Ideal S512x1024 .f32) (w : Vec Ideal S1024x512 .f32) (y : S512x512.Idx) :
    k0_pay1 (F := Ideal) x w y = ∑ k : Fin 1024, x (ix2 (n0 := 512) (y 0) k) * w (ix2 (n1 := 512) k (y 1)) := by
  unfold k0_pay1
  rw [shapeCast_self]
  exact matmul_zero_apply (φ₁ := .bf16) (φ₂ := .bf16) none x w y

theorem final (c : Dev nD) : (dats m 0 c).arrAt 2 cfg0.N
    = Cert.MemKvRefIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.MemKvRefIdeal.Read.val_main_v1_apply, Cert.MemKvRefIdeal.Read.val_main_v0_apply]
  refine (pay_apply _ _ y).trans (Fin.sum_fin_congr fun k => ?_)
  congr 1
  · blk_ext! [iblk, V, idx t]
  · blk_ext! [iblk, V, idx t]

/-- The kernel and its reference give the same array. -/
theorem algebraic : Cert.algebraic_MemKvIdeal_MemKvRefIdeal := by
  pair_intro
  · run_from Cert.MemKvIdeal.Value.run_blocks m g
  · run_from Cert.MemKvRefIdeal.Value.run m' g'
    exact (final m c).symm

end Cert.Proof.MemKvValue
end
-- ==== Proof.InProj.lean ====
/- The call `in_proj` for the prompt, with the rotary embedding that follows it on the host: at the ideal numbers the kernel's four column
   ranges are the reference's one product cut into ranges, and the rotation of queries and keys is the same expression of them. -/
module

public import proofs.«01_k».proof.Defs
public import proofs.«01_k».proof.Proof.Gen.InProjIdeal.Frame
public import proofs.«01_k».proof.Proof.Gen.InProjRefIdeal.Read
public import Idealize.ShloMosaic.Lib.Claim
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Proof.Common

namespace Cert.Proof.InProjValue

open Cert.InProjIdeal Cert.InProjIdeal.Gen

variable (m : (ℓ : Loc nD τ sig) → Buf (Elt Ideal) ℓ) (ρ : Dev nD → PrngReg)

/-- The block indices of the windows at every grid point: the rows' windows move with the point, the weights' stay. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

/-- The product with the wide column range at an element. -/
theorem pay2_apply (x : Vec Ideal S512x1024 .f32) (w : Vec Ideal S1024x1824 .bf16) (y : S512x1824.Idx) :
    k0_pay2 (F := Ideal) x w y = ∑ k : Fin 1024, x (ix2 (n0 := 512) (y 0) k) * w (ix2 (n1 := 1824) k (y 1)) := by
  unfold k0_pay2 k0_pay1
  rw [shapeCast_self, shapeCast_self]
  exact matmul_zero_apply (φ₁ := .bf16) (φ₂ := .bf16) none x w y

/-- The product with a narrow column range at an element. -/
theorem pay3_apply (x : Vec Ideal S512x1024 .f32) (w : Vec Ideal S1024x512 .bf16) (y : S512x512.Idx) :
    k0_pay3 (F := Ideal) x w y = ∑ k : Fin 1024, x (ix2 (n0 := 512) (y 0) k) * w (ix2 (n1 := 512) k (y 1)) := by
  unfold k0_pay3 k0_pay1
  rw [shapeCast_self, shapeCast_self]
  exact matmul_zero_apply (φ₁ := .bf16) (φ₂ := .bf16) none x w y

/-- An array of the reference's shape with its two leading axes joined, at an element. -/
theorem flat_apply (v : Vec Ideal Cert.InProjRefIdeal.S8x4096x512 .f32) (i : S32768x512.Idx) :
    shapeCast S32768x512 v Cert.InProjRefIdeal.Facts₀.shapeCasts_S8x4096x512_S32768x512 i = v (Cert.InProjRefIdeal.Read.idx_main_v70 i) :=
  shapeCast_apply v Cert.InProjRefIdeal.Facts₀.shapeCasts_S8x4096x512_S32768x512 i (Cert.InProjRefIdeal.Read.idx_main_v70 i)
    (by rewrite [Shape.rowMajor_val_three, Shape.rowMajor_val_two]; have h0 : (i 0).val < 32768 := (i 0).isLt; have h1 : (i 1).val < 512 := (i 1).isLt; show (((i 0).val * 512 + (i 1).val) / 2097152 * 4096 + ((i 0).val * 512 + (i 1).val) / 512 % 4096) * 512 + ((i 0).val * 512 + (i 1).val) % 512 = (i 0).val * 512 + (i 1).val; omega)

theorem final5 (c : Dev nD) : (dats m 0 c).arrAt 5 cfg0.N
    = Cert.InProjRefIdeal.Read.val_main_v9 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [Cert.InProjRefIdeal.Read.val_main_v9_apply, Cert.InProjRefIdeal.Read.val_main_v8_apply, Cert.InProjRefIdeal.Read.val_main_v0_apply]
  refine (pay2_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

set_option maxHeartbeats 2000000 in
theorem final6 (c : Dev nD) : (dats m 0 c).arrAt 6 cfg0.N
    = shapeCast S32768x512 (Cert.InProjRefIdeal.Read.val_main_v2 (F := Ideal) (m ((c : Thread nD τ).loc main_arg0)) (m ((c : Thread nD τ).loc main_arg1))) Cert.InProjRefIdeal.Facts₀.shapeCasts_S8x4096x512_S32768x512 := by
  refine (dats m 0 c).arrAt_eq_of_covers 6 _ (by decide +kernel) fun t hf y => ?_
  blk_simp
  rw [after0_6]
  frame_out
  rw [flat_apply, Cert.InProjRefIdeal.Read.val_main_v2_apply, Cert.InProjRefIdeal.Read.val_main_v1_apply, Cert.InProjRefIdeal.Read.val_main_v0_apply]
  refine (pay3_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

set_option maxHeartbeats 2000000 in
theorem final7 (c : Dev nD) : (dats m 0 c).arrAt 7 cfg0.N
    = shapeCast S32768x512 (Cert.InProjRefIdeal.Read.val_main_v3 (F := Ideal) (m ((c : Thread nD τ).loc main_arg0)) (m ((c : Thread nD τ).loc main_arg1))) Cert.InProjRefIdeal.Facts₀.shapeCasts_S8x4096x512_S32768x512 := by
  refine (dats m 0 c).arrAt_eq_of_covers 7 _ (by decide +kernel) fun t hf y => ?_
  blk_simp
  rw [after0_7]
  frame_out
  rw [flat_apply, Cert.InProjRefIdeal.Read.val_main_v3_apply, Cert.InProjRefIdeal.Read.val_main_v1_apply, Cert.InProjRefIdeal.Read.val_main_v0_apply]
  refine (pay3_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

set_option maxHeartbeats 2000000 in
theorem final8 (c : Dev nD) : (dats m 0 c).arrAt 8 cfg0.N
    = Cert.InProjRefIdeal.Read.val_main_v70 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  frame_out
  rw [Cert.InProjRefIdeal.Read.val_main_v70_apply, Cert.InProjRefIdeal.Read.val_main_v4_apply, Cert.InProjRefIdeal.Read.val_main_v1_apply,
    Cert.InProjRefIdeal.Read.val_main_v0_apply]
  refine (pay3_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

/-- Joining the leading axes and then taking the heads apart is taking the heads apart. -/
theorem heads (v : Vec Ideal Cert.InProjRefIdeal.S8x4096x512 .f32) : shapeCast S8x4096x8x64 (shapeCast S32768x512 v Cert.InProjRefIdeal.Facts₀.shapeCasts_S8x4096x512_S32768x512) Cert.InProjIdeal.Facts₀.shapeCasts_S32768x512_S8x4096x8x64
    = shapeCast Cert.InProjRefIdeal.S8x4096x8x64 v Cert.InProjRefIdeal.Facts₀.shapeCasts_S8x4096x512_S8x4096x8x64 :=
  shapeCast_comp _ _ _

/-- The arrays the region leaves, read at the arrays of queries and keys. -/
theorem left6 (c : Dev nD) : Pipeline.withArrays (cfgs 0).spec c (V0 m c) (fun w => (dats m 0 c).arrAt w (cfgs 0).N) (Proc.devRef .tc main_v6_1)
    = shapeCast S32768x512 (Cert.InProjRefIdeal.Read.val_main_v2 (F := Ideal) (m ((c : Thread nD τ).loc main_arg0)) (m ((c : Thread nD τ).loc main_arg1))) Cert.InProjRefIdeal.Facts₀.shapeCasts_S8x4096x512_S32768x512 :=
  (Pipeline.withArrays_arr (cfgs 0).spec (by decide) c (V0 m c) (fun w => (dats m 0 c).arrAt w (cfgs 0).N) 6).trans (final6 m c)

theorem left7 (c : Dev nD) : Pipeline.withArrays (cfgs 0).spec c (V0 m c) (fun w => (dats m 0 c).arrAt w (cfgs 0).N) (Proc.devRef .tc main_v6_2)
    = shapeCast S32768x512 (Cert.InProjRefIdeal.Read.val_main_v3 (F := Ideal) (m ((c : Thread nD τ).loc main_arg0)) (m ((c : Thread nD τ).loc main_arg1))) Cert.InProjRefIdeal.Facts₀.shapeCasts_S8x4096x512_S32768x512 :=
  (Pipeline.withArrays_arr (cfgs 0).spec (by decide) c (V0 m c) (fun w => (dats m 0 c).arrAt w (cfgs 0).N) 7).trans (final7 m c)

set_option maxHeartbeats 8000000 in
/-- The rotated queries as the host leaves them. -/
theorem turned6 (c : Dev nD) : Pipeline.afterTail₀ cfgs (dats m) 0 (V0 m) [hostOps1] c main_v39
    = Cert.InProjRefIdeal.Read.val_main_v39 (F := Ideal) (m ((c : Thread nD τ).loc main_arg0)) (m ((c : Thread nD τ).loc main_arg1)) := by
  unfold Pipeline.afterTail₀
  have h := left6 m c
  generalize Pipeline.withArrays (cfgs 0).spec c (V0 m c) (fun w => (dats m 0 c).arrAt w (cfgs 0).N) = W at h ⊢
  simp only [List.flatten_cons, List.flatten_nil, List.append_nil]
  after_results_simp
  refine join_congr ?_ ?_ _
  · after_results_simp
    rw [h]
    unfold Cert.InProjRefIdeal.Read.val_main_v33 Cert.InProjRefIdeal.Read.val_main_v30 Cert.InProjRefIdeal.Read.val_main_v32 Cert.InProjRefIdeal.Read.val_main_v27 Cert.InProjRefIdeal.Read.val_main_v28 Cert.InProjRefIdeal.Read.val_main_v10
    exact congrArg₂ (subf (F := Ideal) (φ := .f32)) (congrArg₂ (mulf (F := Ideal) (φ := .f32)) (congrArg (fun z => extractStridedSlice (s := S8x4096x8x64) S8x4096x8x32 ![0, 0, 0, 0] z Facts₀.slices_S8x4096x8x64_S8x4096x8x32_0_0_0_0) (heads _)) rfl)
      (congrArg₂ (mulf (F := Ideal) (φ := .f32)) (congrArg (fun z => extractStridedSlice (s := S8x4096x8x64) S8x4096x8x32 ![0, 0, 0, 32] z Facts₀.slices_S8x4096x8x64_S8x4096x8x32_0_0_0_32) (heads _)) rfl)
  · after_results_simp
    rw [h]
    unfold Cert.InProjRefIdeal.Read.val_main_v38 Cert.InProjRefIdeal.Read.val_main_v35 Cert.InProjRefIdeal.Read.val_main_v37 Cert.InProjRefIdeal.Read.val_main_v28 Cert.InProjRefIdeal.Read.val_main_v27 Cert.InProjRefIdeal.Read.val_main_v10
    exact congrArg₂ (addf (F := Ideal) (φ := .f32)) (congrArg₂ (mulf (F := Ideal) (φ := .f32)) (congrArg (fun z => extractStridedSlice (s := S8x4096x8x64) S8x4096x8x32 ![0, 0, 0, 32] z Facts₀.slices_S8x4096x8x64_S8x4096x8x32_0_0_0_32) (heads _)) rfl)
      (congrArg₂ (mulf (F := Ideal) (φ := .f32)) (congrArg (fun z => extractStridedSlice (s := S8x4096x8x64) S8x4096x8x32 ![0, 0, 0, 0] z Facts₀.slices_S8x4096x8x64_S8x4096x8x32_0_0_0_0) (heads _)) rfl)

set_option maxHeartbeats 8000000 in
/-- The rotated keys as the host leaves them. -/
theorem turned7 (c : Dev nD) : Pipeline.afterTail₀ cfgs (dats m) 0 (V0 m) [hostOps1] c main_v69
    = Cert.InProjRefIdeal.Read.val_main_v69 (F := Ideal) (m ((c : Thread nD τ).loc main_arg0)) (m ((c : Thread nD τ).loc main_arg1)) := by
  unfold Pipeline.afterTail₀
  have h := left7 m c
  generalize Pipeline.withArrays (cfgs 0).spec c (V0 m c) (fun w => (dats m 0 c).arrAt w (cfgs 0).N) = W at h ⊢
  simp only [List.flatten_cons, List.flatten_nil, List.append_nil]
  after_results_simp
  refine join_congr ?_ ?_ _
  · after_results_simp
    rw [h]
    unfold Cert.InProjRefIdeal.Read.val_main_v63 Cert.InProjRefIdeal.Read.val_main_v60 Cert.InProjRefIdeal.Read.val_main_v62 Cert.InProjRefIdeal.Read.val_main_v57 Cert.InProjRefIdeal.Read.val_main_v58 Cert.InProjRefIdeal.Read.val_main_v40
    exact congrArg₂ (subf (F := Ideal) (φ := .f32)) (congrArg₂ (mulf (F := Ideal) (φ := .f32)) (congrArg (fun z => extractStridedSlice (s := S8x4096x8x64) S8x4096x8x32 ![0, 0, 0, 0] z Facts₀.slices_S8x4096x8x64_S8x4096x8x32_0_0_0_0) (heads _)) rfl)
      (congrArg₂ (mulf (F := Ideal) (φ := .f32)) (congrArg (fun z => extractStridedSlice (s := S8x4096x8x64) S8x4096x8x32 ![0, 0, 0, 32] z Facts₀.slices_S8x4096x8x64_S8x4096x8x32_0_0_0_32) (heads _)) rfl)
  · after_results_simp
    rw [h]
    unfold Cert.InProjRefIdeal.Read.val_main_v68 Cert.InProjRefIdeal.Read.val_main_v65 Cert.InProjRefIdeal.Read.val_main_v67 Cert.InProjRefIdeal.Read.val_main_v57 Cert.InProjRefIdeal.Read.val_main_v58 Cert.InProjRefIdeal.Read.val_main_v40
    exact congrArg₂ (addf (F := Ideal) (φ := .f32)) (congrArg₂ (mulf (F := Ideal) (φ := .f32)) (congrArg (fun z => extractStridedSlice (s := S8x4096x8x64) S8x4096x8x32 ![0, 0, 0, 32] z Facts₀.slices_S8x4096x8x64_S8x4096x8x32_0_0_0_32) (heads _)) rfl)
      (congrArg₂ (mulf (F := Ideal) (φ := .f32)) (congrArg (fun z => extractStridedSlice (s := S8x4096x8x64) S8x4096x8x32 ![0, 0, 0, 0] z Facts₀.slices_S8x4096x8x64_S8x4096x8x32_0_0_0_0) (heads _)) rfl)

/-- The kernel's run with its results named by the reference's stages. -/
theorem run_kernel : θ_run defs (onTc (τ := τ) (main (F := Ideal))) ⟨m, fun _ => 0, ρ⟩ fun r => ∀ c : Dev nD,
      r.2.mem ((c : Thread nD τ).loc main_v6_0) = Cert.InProjRefIdeal.Read.val_main_v9 (F := Ideal) (m ((c : Thread nD τ).loc main_arg0)) (m ((c : Thread nD τ).loc main_arg1))
      ∧ r.2.mem ((c : Thread nD τ).loc main_v39) = Cert.InProjRefIdeal.Read.val_main_v39 (F := Ideal) (m ((c : Thread nD τ).loc main_arg0)) (m ((c : Thread nD τ).loc main_arg1))
      ∧ r.2.mem ((c : Thread nD τ).loc main_v69) = Cert.InProjRefIdeal.Read.val_main_v69 (F := Ideal) (m ((c : Thread nD τ).loc main_arg0)) (m ((c : Thread nD τ).loc main_arg1))
      ∧ r.2.mem ((c : Thread nD τ).loc main_v6_3) = Cert.InProjRefIdeal.Read.val_main_v70 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 5).trans (final5 m c),
      ((h c).2 main_v39 (Pipeline.mem_restRefs_of main_v39 (by decide) (by decide))).trans (turned6 m c),
      ((h c).2 main_v69 (Pipeline.mem_restRefs_of main_v69 (by decide) (by decide))).trans (turned7 m c),
      ((h c).1 8).trans (final8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The kernel and its reference give the same four arrays. -/
theorem algebraic : Cert.algebraic_InProjIdeal_InProjRefIdeal := by
  pair_intro
  · exact run_kernel m g
  · refine (θ_run _ _ _).mono (fun r h c => ?_) (Cert.InProjRefIdeal.Value.run m' g')
    obtain ⟨h0, h1, h2, h3, h4, h5⟩ := h c
    obtain ⟨e0, e1⟩ := hagree c
    refine ⟨?_, ?_, ?_, ?_, h4, h5⟩
    · rw [← e0, ← e1]; exact h0
    · rw [← e0, ← e1]; exact h1.trans (Cert.InProjRefIdeal.Read.val_main_v39_eq m' c)
    · rw [← e0, ← e1]; exact h2.trans (Cert.InProjRefIdeal.Read.val_main_v69_eq m' c)
    · rw [← e0, ← e1]; exact h3

end Cert.Proof.InProjValue
end
-- ==== Proof.ProjLn.lean ====
/- The call `proj_res_ln`: at the ideal numbers the kernel's result array is the reference's output projection of the two
   mixers, added to the layer's input and normalised row by row. -/
module

public import proofs.«01_k».proof.Defs
public import proofs.«01_k».proof.Proof.Gen.ProjLnIdeal.Value
public import proofs.«01_k».proof.Proof.Gen.ProjLnRefIdeal.Read
public import Idealize.ShloMosaic.Lib.Claim
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Proof.Common

namespace Cert.Proof.ProjLnValue

open Cert.ProjLnIdeal Cert.ProjLnIdeal.Gen Cert.ProjLnIdeal.Value
open Cert.ProjLnRefIdeal.Read

variable (m : (ℓ : Loc nD τ sig) → Buf (Elt Ideal) ℓ) (ρ : Dev nD → PrngReg)

/-- The block indices of the windows at every grid point. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] :=
  (by decide +kernel : ∀ t : Fin grid0.N, _)

/-- The body's result at an element: the row's residual sum, normalised. -/
theorem pay_apply (a : Vec Ideal S512x1024 .f32) (w : Vec Ideal S1024x1024 .bf16) (x : Vec Ideal S512x1024 .f32) (g b : Vec Ideal S1x1024 .f32)
    (y : S512x1024.Idx) :
    k0_pay1 (F := Ideal) a w x g b y = lnAt (fun j => Ideal.ofBits .f32 0x3FB504F3#32 * x (ix2 (n0 := 512) (y 0) j)
        + ∑ k : Fin 1024, a (ix2 (n0 := 512) (y 0) k) * w (ix2 (n1 := 1024) k j)) (g (ix2 (n1 := 1024) 0 (y 1))) (b (ix2 (n1 := 1024) 0 (y 1))) (y 1) := by
  pointwise [k0_pay1, lnAt]

/-- The reference's result at an element. -/
theorem ref_apply (x0 x1 : (⟨S8x4096x512, .f32⟩ : BufTy).Contents (Elt Ideal)) (x2 : (⟨S1024x1024, .f32⟩ : BufTy).Contents (Elt Ideal)) (x3 : (⟨S8x4096x1024, .f32⟩ : BufTy).Contents (Elt Ideal)) (x4 x5 : (⟨S1024, .f32⟩ : BufTy).Contents (Elt Ideal))
    (i : S8x4096x1024.Idx) :
    val_main_v28 (F := Ideal) x0 x1 x2 x3 x4 x5 i = lnAt (fun j => Ideal.ofBits .f32 0x3FB504F3#32 * x3 (ix3 (n0 := 8) (n1 := 4096) (i 0) (i 1) j)
        + ∑ k : Fin 1024, val_main_v0 (F := Ideal) x0 x1 (ix3 (n0 := 8) (n1 := 4096) (i 0) (i 1) k) * x2 (ix2 (n1 := 1024) k j)) (x4 (ix1 (n0 := 1024) (i 2))) (x5 (ix1 (n0 := 1024) (i 2))) (i 2) := by
  generalize hc : val_main_v0 (F := Ideal) x0 x1 = cc
  pointwise [lnAt, val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_cst, val_main_cst_0, val_main_cst_1, val_main_cst_2,
    val_main_cst_3, val_main_cst_4, hc]

/-- The batch that row `r` of grid point `t`'s block belongs to. -/
def bat (t : Fin cfg0.N) (r : Fin 512) : Fin 8 := ⟨(t.val * 512 + r.val) / 4096, by
  have h0 : t.val < 64 := t.isLt
  omega⟩

/-- Its place in the sequence. -/
def pos (t : Fin cfg0.N) (r : Fin 512) : Fin 4096 := ⟨(t.val * 512 + r.val) % 4096, Nat.mod_lt _ (by decide)⟩

/-- Where an element of the result's block stands in the reference's array. -/
theorem emb_idx {α : Type} (X : S8x4096x1024.Idx → α) (t : Fin cfg0.N) (r : Fin 512) (j : Fin 1024) :
    X (idx_main_v29 (((cfg0.win 5).blk t).view.emb (ix2 r j))) = X (ix3 (bat t r) (pos t r) j) := by
  blk_ext [idx t, bat, pos]

/-- The region finds the two mixers' halves side by side. -/
theorem entry_v1 (c : Dev nD) : V m c main_v1 = shapeCast S32768x1024
    (val_main_v0 (F := Ideal) (m ((c : Thread nD τ).loc main_arg0)) (m ((c : Thread nD τ).loc main_arg1))) shapeCasts_S8x4096x1024_S32768x1024 := by
  entry_read
  rfl

theorem blk0 (c : Dev nD) (t : Fin cfg0.N) (r : Fin 512) (k : Fin 1024) : iblk m c 0 t (ix2 r k)
    = val_main_v0 (F := Ideal) (m ((c : Thread nD τ).loc main_arg0)) (m ((c : Thread nD τ).loc main_arg1)) (ix3 (bat t r) (pos t r) k) := by
  show V m c main_v1 (((cfg0.win 0).blk t).view.emb (ix2 r k)) = _
  rw [entry_v1]
  generalize val_main_v0 (F := Ideal) (m ((c : Thread nD τ).loc main_arg0)) (m ((c : Thread nD τ).loc main_arg1)) = X
  pointwise
  blk_ext [idx t, bat, pos]

theorem blk1 (c : Dev nD) (t : Fin cfg0.N) (k j : Fin 1024) : iblk m c 1 t (ix2 k j) = m ((c : Thread nD τ).loc main_arg2) (ix2 k j) := by
  blk_ext! [iblk, V, idx t]

theorem blk2 (c : Dev nD) (t : Fin cfg0.N) (r : Fin 512) (k : Fin 1024) : iblk m c 2 t (ix2 r k)
    = m ((c : Thread nD τ).loc main_arg3) (ix3 (bat t r) (pos t r) k) := by
  blk_ext! [iblk, V, idx t, bat, pos]

theorem blk3 (c : Dev nD) (t : Fin cfg0.N) (j : Fin 1024) : iblk m c 3 t (ix2 0 j) = m ((c : Thread nD τ).loc main_arg4) (ix1 j) := by
  blk_ext! [iblk, V, idx t]

theorem blk4 (c : Dev nD) (t : Fin cfg0.N) (j : Fin 1024) : iblk m c 4 t (ix2 0 j) = m ((c : Thread nD τ).loc main_arg5) (ix1 j) := by
  blk_ext! [iblk, V, idx t]

theorem final (c : Dev nD) : (dats m 0 c).arrAt 5 cfg0.N
    = val_main_v29 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  rw [val_main_v29_apply, emb_idx (val_main_v28 (F := Ideal) _ _ _ _ _ _), ref_apply]
  blk_simp
  rw [after0_5]
  frame_out
  refine (pay_apply _ _ _ _ _ _).trans (lnAt_congr (fun k => ?_) (blk3 m c t j) (blk4 m c t j) rfl)
  exact congrArg₂ (· + ·) (congrArg _ (blk2 m c t r k)) (Finset.sum_congr rfl fun l _ => congrArg₂ (· * ·) (blk0 m c t r l) (blk1 m c t l k))

/-- The kernel and its reference give the same array. -/
theorem algebraic : Cert.algebraic_ProjLnIdeal_ProjLnRefIdeal := by
  pair_intro
  · run_from Cert.ProjLnIdeal.Value.run_blocks m g
  · run_from Cert.ProjLnRefIdeal.Value.run m' g'
    obtain ⟨h0, h1, h2, h3, h4, h5⟩ := hagree c
    rw [val_main_v29_eq, final m c, h0, h1, h2, h3, h4, h5]

end Cert.Proof.ProjLnValue
end
-- ==== Proof.MemAttn.lean ====
/- The call `mem_attn`: at the ideal numbers the kernel's result array is the reference's cross-attention into the memory
   tokens, head by head, projected, added to the stream and normalised. -/
module

public import proofs.«01_k».proof.Defs
public import proofs.«01_k».proof.Proof.Gen.MemAttnIdeal.Value
public import proofs.«01_k».proof.Proof.Gen.MemAttnRefIdeal.Read
public import Idealize.ShloMosaic.Lib.Claim
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Proof.Common

namespace Cert.Proof.MemAttnValue

open Cert.MemAttnIdeal Cert.MemAttnIdeal.Gen Cert.MemAttnIdeal.Value
open Cert.MemAttnRefIdeal.Read

variable (m : (ℓ : Loc nD τ sig) → Buf (Elt Ideal) ℓ) (ρ : Dev nD → PrngReg)

/-- The softmax of 256 logits weighing 256 values. -/
def smAt (s v : Fin 256 → EReal) : EReal :=
  ∑ k, Ideal.div (Ideal.exp (s k - Finset.univ.fold max (Ideal.ofBits .f32 0xFF800000#32) fun k' => s k'))
    (∑ k', Ideal.exp (s k' - Finset.univ.fold max (Ideal.ofBits .f32 0xFF800000#32) fun k'' => s k'')) * v k

/-- One head's answer to one query at one value column: the softmax of the scaled products with the 256 keys, weighing the
    column's 256 values. -/
def attAt (q : Fin 256 → EReal) (K : Fin 256 → Fin 256 → EReal) (v : Fin 256 → EReal) : EReal :=
  smAt (fun k => (∑ d, q d * K k d) * Ideal.ofBits .f32 0x3D800000#32) v

theorem attAt_congr {q q' : Fin 256 → EReal} {K K' : Fin 256 → Fin 256 → EReal} {v v' : Fin 256 → EReal} (hq : ∀ d, q d = q' d) (hK : ∀ k d, K k d = K' k d)
    (hv : ∀ k, v k = v' k) : attAt q K v = attAt q' K' v' := by
  obtain rfl : q = q' := funext hq
  obtain rfl : K = K' := funext fun k => funext (hK k)
  obtain rfl : v = v' := funext hv
  rfl

/-- Four rows of 256 side by side. -/
def cat4 (a b c d : Fin 256 → EReal) (l : Fin 1024) : EReal :=
  if h : l.val < 256 then a ⟨l.val, h⟩ else if h : l.val - 256 < 256 then b ⟨l.val - 256, h⟩
  else if h : l.val - 256 - 256 < 256 then c ⟨l.val - 256 - 256, h⟩ else d ⟨l.val - 256 - 256 - 256, by omega⟩

/-- Where column `e` of head `h` stands. -/
def col (h : Fin 4) (e : Fin 256) : Fin 1024 := ⟨256 * h.val + e.val, by omega⟩

/-- The head that column `l` belongs to, and its place there. -/
def headOf (l : Fin 1024) : Fin 4 := ⟨l.val / 256, by omega⟩
def placeOf (l : Fin 1024) : Fin 256 := ⟨l.val % 256, by omega⟩

theorem cat4_eq (G : Fin 4 → Fin 256 → EReal) (l : Fin 1024) : cat4 (G 0) (G 1) (G 2) (G 3) l = G (headOf l) (placeOf l) := by
  unfold cat4 headOf placeOf
  split
  · exact congrArg₂ G (Fin.ext (show 0 = l.val / 256 by omega)) (Fin.ext (show l.val = l.val % 256 by omega))
  split
  · exact congrArg₂ G (Fin.ext (show 1 = l.val / 256 by omega)) (Fin.ext (show l.val - 256 = l.val % 256 by omega))
  split
  · exact congrArg₂ G (Fin.ext (show 2 = l.val / 256 by omega)) (Fin.ext (show l.val - 256 - 256 = l.val % 256 by omega))
  · exact congrArg₂ G (Fin.ext (show 3 = l.val / 256 by omega)) (Fin.ext (show l.val - 256 - 256 - 256 = l.val % 256 by omega))

theorem cat4_congr {a b c d a' b' c' d' : Fin 256 → EReal} (ha : ∀ e, a e = a' e) (hb : ∀ e, b e = b' e) (hc : ∀ e, c e = c' e) (hd : ∀ e, d e = d' e)
    (l : Fin 1024) : cat4 a b c d l = cat4 a' b' c' d' l := by
  obtain rfl : a = a' := funext ha
  obtain rfl : b = b' := funext hb
  obtain rfl : c = c' := funext hc
  obtain rfl : d = d' := funext hd
  rfl

/-! ## The body's values at an element -/

theorem pay3_apply (x : Vec Ideal S1x512x1024 .f32) (w : Vec Ideal S1024x1024 .bf16) (y : S512x1024.Idx) :
    k0_pay3 (F := Ideal) x w y = ∑ l : Fin 1024, x (ix3 0 (y 0) l) * w (ix2 l (y 1)) := by
  pointwise [k0_pay3, k0_pay2]

theorem pay4_apply (x : Vec Ideal S1x512x1024 .f32) (w : Vec Ideal S1024x1024 .bf16) (K v : Vec Ideal S1x256x256 .f32) (r : Fin 512) (e : Fin 256) :
    k0_pay4 (F := Ideal) x w K v (ix2 r e) = attAt (fun d => k0_pay3 x w (ix2 r (col 0 d))) (fun k d => K (ix3 0 k d)) (fun k => v (ix3 0 k e)) := by
  unfold k0_pay4
  generalize k0_pay3 x w = q
  pointwise [attAt, smAt, col]

theorem pay6_apply (x : Vec Ideal S1x512x1024 .f32) (w : Vec Ideal S1024x1024 .bf16) (K v : Vec Ideal S1x256x256 .f32) (r : Fin 512) (e : Fin 256) :
    k0_pay6 (F := Ideal) (k0_pay5 x w K) v (ix2 r e) = attAt (fun d => k0_pay3 x w (ix2 r (col 1 d))) (fun k d => K (ix3 0 k d)) (fun k => v (ix3 0 k e)) := by
  unfold k0_pay6 k0_pay5
  generalize k0_pay3 x w = q
  pointwise [attAt, smAt, col]

theorem pay7_apply (q : FVec Ideal S512x1024 .f32) (K v : Vec Ideal S1x256x256 .f32) (r : Fin 512) (e : Fin 256) :
    k0_pay7 (F := Ideal) q K v (ix2 r e) = attAt (fun d => q (ix2 r (col 2 d))) (fun k d => K (ix3 0 k d)) (fun k => v (ix3 0 k e)) := by
  unfold k0_pay7
  pointwise [attAt, smAt, col]

/-- The stored block at an element, from the three heads computed before, the last head's query rows and its keys and values. -/
theorem pay1_apply (x : FVec Ideal S512x1024 .f32) (h0 h1 h2 : FVec Ideal S512x256 .f32) (q3 : FVec Ideal S512x256 .bf16) (K : FVec Ideal S256x256 .f32)
    (v : Vec Ideal S1x256x256 .f32) (w : Vec Ideal S1024x1024 .bf16) (g b : FVec Ideal S1x1024 .f32) (y : S1x512x1024.Idx) :
    k0_pay1 (F := Ideal) g b (k0_pay12 x h0 h1 h2 q3 K v w) (k0_pay13 x h0 h1 h2 q3 K v w) k0_pay14 y
      = lnAt (fun j => Ideal.ofBits .f32 0x3FB504F3#32 * x (ix2 (n0 := 512) (y 1) j)
          + ∑ l : Fin 1024, cat4 (fun e => h0 (ix2 (n0 := 512) (y 1) e)) (fun e => h1 (ix2 (n0 := 512) (y 1) e)) (fun e => h2 (ix2 (n0 := 512) (y 1) e))
              (fun e => attAt (fun d => q3 (ix2 (n0 := 512) (y 1) d)) (fun k d => K (ix2 k d)) (fun k => v (ix3 0 k e))) l * w (ix2 (n1 := 1024) l j))
          (g (ix2 (n1 := 1024) 0 (y 2))) (b (ix2 (n1 := 1024) 0 (y 2))) (y 2) := by
  pointwise [k0_pay1, k0_pay12, k0_pay13, k0_pay14, lnAt, cat4, attAt, smAt]

theorem ld_0 (x : Vec Ideal S1x256x1024 .f32) (k d : Fin 256) : View.ld x r0_2 (ix3 0 k d) = x (ix3 0 k (col 0 d)) := by
  pointwise [col]
theorem ld_1 (x : Vec Ideal S1x256x1024 .f32) (k d : Fin 256) : View.ld x r0_3 (ix3 0 k d) = x (ix3 0 k (col 1 d)) := by
  pointwise [col]
theorem ld_2 (x : Vec Ideal S1x256x1024 .f32) (k d : Fin 256) : View.ld x r0_4 (ix3 0 k d) = x (ix3 0 k (col 2 d)) := by
  pointwise [col]
theorem ld_3 (x : Vec Ideal S1x256x1024 .f32) (k d : Fin 256) : View.ld x r0_5 (ix3 0 k d) = x (ix3 0 k (col 3 d)) := by
  pointwise [col]

/-- The whole loads of the stream's block and of a weight, in the query's product. -/
theorem q_loads (x : Vec Ideal S1x512x1024 .f32) (w : Vec Ideal S1024x1024 .bf16) (r : Fin 512) (c : Fin 1024) :
    ∑ l : Fin 1024, View.ld x r0_0 (ix3 0 r l) * View.ld w r0_1 (ix2 l c) = ∑ l : Fin 1024, x (ix3 0 r l) * w (ix2 l c) := by
  pointwise

/-- What the body leaves in the result's block, from the blocks it reads: the head of a column is read off its number. -/
theorem out_apply (x0 : Vec Ideal S1x512x1024 .f32) (x1 x2 : Vec Ideal S1024x1024 .bf16) (x3 x4 : Vec Ideal S1x256x1024 .f32) (x5 x6 : Vec Ideal S1x1024 .f32)
    (r : Fin 512) (j : Fin 1024) :
    out0_7 (F := Ideal) x0 x1 x2 x3 x4 x5 x6 (ix3 0 r j)
      = lnAt (fun j => Ideal.ofBits .f32 0x3FB504F3#32 * x0 (ix3 0 r j)
          + ∑ l : Fin 1024, attAt (fun d => ∑ l' : Fin 1024, x0 (ix3 0 r l') * x1 (ix2 l' (col (headOf l) d))) (fun k d => x3 (ix3 0 k (col (headOf l) d)))
              (fun k => x4 (ix3 0 k (col (headOf l) (placeOf l)))) * x2 (ix2 l j))
          (x5 (ix2 0 j)) (x6 (ix2 0 j)) j := by
  frame_out
  refine (pay1_apply _ _ _ _ _ _ _ _ _ _ _).trans (lnAt_congr (fun k => ?_) ?_ ?_ rfl)
  · refine congrArg₂ (· + ·) (congrArg _ ?_) (Finset.sum_congr rfl fun l _ => congrArg₂ (· * ·) ?_ ?_)
    · pointwise [k0_pay15, k0_pay2]
    · refine Eq.trans ?_ (cat4_eq (fun h e => attAt (fun d => ∑ l' : Fin 1024, x0 (ix3 0 r l') * x1 (ix2 l' (col h d))) (fun k d => x3 (ix3 0 k (col h d)))
          (fun k => x4 (ix3 0 k (col h e)))) l)
      refine cat4_congr (fun e => ?_) (fun e => ?_) (fun e => ?_) (fun e => ?_) l
      · exact (pay4_apply _ _ _ _ _ _).trans (attAt_congr (fun d => (pay3_apply _ _ _).trans (q_loads ..)) (fun k d => ld_0 ..) fun k => ld_0 ..)
      · exact (pay6_apply _ _ _ _ _ _).trans (attAt_congr (fun d => (pay3_apply _ _ _).trans (q_loads ..)) (fun k d => ld_1 ..) fun k => ld_1 ..)
      · exact (pay7_apply _ _ _ _ _).trans (attAt_congr (fun d => (pay3_apply _ _ _).trans (q_loads ..)) (fun k d => ld_2 ..) fun k => ld_2 ..)
      · refine attAt_congr (fun d => ?_) (fun k d => ?_) fun k => ld_3 ..
        · refine Eq.trans ?_ ((pay3_apply _ _ (ix2 r (col 3 d))).trans (q_loads x0 x1 r (col 3 d)))
          pointwise [k0_pay20, k0_pay8, k0_pay16, col]
        · refine Eq.trans ?_ (ld_3 x3 k d)
          pointwise [k0_pay21, k0_pay9]
    · pointwise
  · pointwise [k0_pay10]
  · pointwise [k0_pay11]

/-! ## The reference at an element -/

theorem ref_q (x0 : (⟨S8x4096x1024, .f32⟩ : BufTy).Contents (Elt Ideal)) (x3 : (⟨S1024x1024, .f32⟩ : BufTy).Contents (Elt Ideal))
    (b : Fin 8) (t : Fin 4096) (h : Fin 4) (d : Fin 256) :
    val_main_v1 (F := Ideal) x0 x3 (ix4 b t h d) = ∑ l : Fin 1024, x0 (ix3 b t l) * x3 (ix2 l (col h d)) := by
  rw [val_main_v1_apply, val_main_v0_apply]
  refine Finset.sum_congr rfl fun l _ => congrArg₂ (· * ·) (congrArg x0 ?_) (congrArg x3 ?_)
  · idx_ext
  · funext a
    match a with
    | ⟨0, _⟩ => rfl
    | ⟨1, _⟩ =>
      have hb := b.isLt
      have ht := t.isLt
      have hh := h.isLt
      have hd := d.isLt
      exact Fin.ext (show (((b.val * 4096 + t.val) * 4 + h.val) * 256 + d.val) % 1024 = 256 * h.val + d.val by omega)

theorem ref_logit (x0 : (⟨S8x4096x1024, .f32⟩ : BufTy).Contents (Elt Ideal)) (x1 : (⟨S8x256x4x256, .f32⟩ : BufTy).Contents (Elt Ideal)) (x3 : (⟨S1024x1024, .f32⟩ : BufTy).Contents (Elt Ideal))
    (b : Fin 8) (t : Fin 4096) (h : Fin 4) (k : Fin 256) :
    val_main_v4 (F := Ideal) x0 x1 x3 (ix4 b h t k)
      = (∑ d, (∑ l : Fin 1024, x0 (ix3 b t l) * x3 (ix2 l (col h d))) * x1 (ix4 b k h d)) * Ideal.ofBits .f32 0x3D800000#32 := by
  simp only [← ref_q]
  generalize hq : val_main_v1 (F := Ideal) x0 x3 = q
  pointwise [val_main_v4, val_main_v3, val_main_v2, val_main_cst, hq]

/-- Taking the largest of the logits once more with the least number changes nothing. -/
theorem max_fold (i : EReal) (s : Fin 256 → EReal) : max i (Finset.univ.fold max i s) = Finset.univ.fold max i s :=
  max_eq_right ((Finset.le_fold_max _).2 (.inl le_rfl))

theorem ref_max (s : FVec Ideal Cert.MemAttnRefIdeal.S8x4x4096x256 .f32) (b : Fin 8) (h : Fin 4) (t : Fin 4096) :
    Host.reduce FloatOps.maximumf s (val_main_cst_0 (F := Ideal)) Cert.MemAttnRefIdeal.Gen.reducesTo_S8x4x4096x256_S8x4x4096_d3 Cert.MemAttnRefIdeal.Gen.h_S_ (ix3 b h t)
      = Finset.univ.fold max (Ideal.ofBits .f32 0xFF800000#32) fun k => s (ix4 b h t k) := by
  pointwise [val_main_cst_0]

theorem ref_sum (s : FVec Ideal Cert.MemAttnRefIdeal.S8x4x4096x256 .f32) (b : Fin 8) (h : Fin 4) (t : Fin 4096) :
    Host.reduceAdd s (val_main_cst_2 (F := Ideal)) Cert.MemAttnRefIdeal.Gen.reducesTo_S8x4x4096x256_S8x4x4096_d3 Cert.MemAttnRefIdeal.Gen.h_S_ (ix3 b h t) = ∑ k, s (ix4 b h t k) := by
  pointwise [val_main_cst_2]

/-- The reference's probabilities from its logits. -/
theorem ref_prob (x0 : (⟨S8x4096x1024, .f32⟩ : BufTy).Contents (Elt Ideal)) (x1 : (⟨S8x256x4x256, .f32⟩ : BufTy).Contents (Elt Ideal)) (x3 : (⟨S1024x1024, .f32⟩ : BufTy).Contents (Elt Ideal))
    (b : Fin 8) (t : Fin 4096) (h : Fin 4) (k : Fin 256) :
    val_main_v15 (F := Ideal) x0 x1 x3 (ix4 b h t k)
      = Ideal.div (Ideal.exp (val_main_v4 (F := Ideal) x0 x1 x3 (ix4 b h t k) - Finset.univ.fold max (Ideal.ofBits .f32 0xFF800000#32) fun k' => val_main_v4 (F := Ideal) x0 x1 x3 (ix4 b h t k')))
          (∑ k', Ideal.exp (val_main_v4 (F := Ideal) x0 x1 x3 (ix4 b h t k') - Finset.univ.fold max (Ideal.ofBits .f32 0xFF800000#32) fun k'' => val_main_v4 (F := Ideal) x0 x1 x3 (ix4 b h t k''))) := by
  have hM : ∀ k, val_main_v9 (F := Ideal) x0 x1 x3 (ix4 b h t k)
      = Finset.univ.fold max (Ideal.ofBits .f32 0xFF800000#32) fun k' => val_main_v4 (F := Ideal) x0 x1 x3 (ix4 b h t k') := fun k => by
    rw [val_main_v9_apply, val_main_v8_apply, val_main_v7_apply, val_main_v6_apply, show idx_main_v8 (idx_main_v9 (ix4 b h t k)) = ix3 b h t by idx_ext]
    unfold val_main_v5
    rw [ref_max]
    exact max_fold _ _
  have hE : ∀ k, val_main_v11 (F := Ideal) x0 x1 x3 (ix4 b h t k) = Ideal.exp (val_main_v4 (F := Ideal) x0 x1 x3 (ix4 b h t k) - Finset.univ.fold max (Ideal.ofBits .f32 0xFF800000#32) fun k' => val_main_v4 (F := Ideal) x0 x1 x3 (ix4 b h t k')) := fun k => by
    rw [val_main_v11_apply, val_main_v10_apply, hM]
    rfl
  rw [val_main_v15_apply, val_main_v14_apply, val_main_v13_apply, show idx_main_v13 (idx_main_v14 (ix4 b h t k)) = ix3 b h t by idx_ext]
  unfold val_main_v12
  rw [ref_sum]
  simp only [hE]
  rfl

/-- The reference's weighed values, before its heads are joined. -/
theorem ref_weigh (x0 : (⟨S8x4096x1024, .f32⟩ : BufTy).Contents (Elt Ideal)) (x1 x2 : (⟨S8x256x4x256, .f32⟩ : BufTy).Contents (Elt Ideal)) (x3 : (⟨S1024x1024, .f32⟩ : BufTy).Contents (Elt Ideal))
    (b : Fin 8) (t : Fin 4096) (h : Fin 4) (e : Fin 256) :
    val_main_v17 (F := Ideal) x0 x1 x2 x3 (ix4 b t h e) = ∑ k, x2 (ix4 b k h e) * val_main_v15 (F := Ideal) x0 x1 x3 (ix4 b h t k) := by
  rw [val_main_v17_apply, val_main_v16_apply]
  generalize val_main_v15 (F := Ideal) x0 x1 x3 = p
  refine Finset.sum_congr rfl fun k _ => congrArg₂ (· * ·) (congrArg x2 ?_) (congrArg p ?_) <;> idx_ext

theorem ref_head (x0 : (⟨S8x4096x1024, .f32⟩ : BufTy).Contents (Elt Ideal)) (x1 x2 : (⟨S8x256x4x256, .f32⟩ : BufTy).Contents (Elt Ideal)) (x3 : (⟨S1024x1024, .f32⟩ : BufTy).Contents (Elt Ideal))
    (b : Fin 8) (t : Fin 4096) (h : Fin 4) (e : Fin 256) :
    val_main_v17 (F := Ideal) x0 x1 x2 x3 (ix4 b t h e)
      = attAt (fun d => ∑ l : Fin 1024, x0 (ix3 b t l) * x3 (ix2 l (col h d))) (fun k d => x1 (ix4 b k h d)) (fun k => x2 (ix4 b k h e)) := by
  have hs := funext fun k => ref_logit x0 x1 x3 b t h k
  unfold attAt
  rw [ref_weigh, ← hs]
  unfold smAt
  exact Finset.sum_congr rfl fun k _ => (mul_comm _ _).trans (congrArg (· * _) (ref_prob x0 x1 x3 b t h k))

theorem ref_apply (x0 : (⟨S8x4096x1024, .f32⟩ : BufTy).Contents (Elt Ideal)) (x1 x2 : (⟨S8x256x4x256, .f32⟩ : BufTy).Contents (Elt Ideal)) (x3 x4 : (⟨S1024x1024, .f32⟩ : BufTy).Contents (Elt Ideal))
    (x5 x6 : (⟨S1024, .f32⟩ : BufTy).Contents (Elt Ideal)) (b : Fin 8) (t : Fin 4096) (j : Fin 1024) :
    val_main_v46 (F := Ideal) x0 x1 x2 x3 x4 x5 x6 (ix3 b t j)
      = lnAt (fun j => Ideal.ofBits .f32 0x3FB504F3#32 * x0 (ix3 b t j)
          + ∑ l : Fin 1024, val_main_v17 (F := Ideal) x0 x1 x2 x3 (ix4 b t (headOf l) (placeOf l)) * x4 (ix2 l j)) (x5 (ix1 j)) (x6 (ix1 j)) j := by
  generalize hc : val_main_v17 (F := Ideal) x0 x1 x2 x3 = o
  pointwise [lnAt, headOf, placeOf, val_main_v46, val_main_v45, val_main_v44, val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24, val_main_v23, val_main_v22, val_main_v21, val_main_v20,
    val_main_v19, val_main_v18, val_main_cst_3, val_main_cst_4, val_main_cst_5, val_main_cst_6, val_main_cst_7, val_main_cst_8, hc]

/-! ## The blocks a grid point reads -/

/-- The block indices of the windows at every grid point. -/
theorem idx : ∀ t : Fin cfg0.N, win0_0.index t = ![t.val / 8, t.val % 8, 0] ∧ win0_1.index t = ![0, 0] ∧ win0_2.index t = ![0, 0]
    ∧ win0_3.index t = ![t.val / 8, 0, 0] ∧ win0_4.index t = ![t.val / 8, 0, 0] ∧ win0_5.index t = ![0, 0] ∧ win0_6.index t = ![0, 0]
    ∧ win0_7.index t = ![t.val / 8, t.val % 8, 0] :=
  (by decide +kernel : ∀ t : Fin grid0.N, _)

/-- The batch of grid point `t`. -/
def bat (t : Fin cfg0.N) : Fin 8 := ⟨t.val / 8, by
  have h0 : t.val < 64 := t.isLt
  omega⟩

/-- The place in the sequence of row `r` of its block. -/
def pos (t : Fin cfg0.N) (r : Fin 512) : Fin 4096 := ⟨t.val % 8 * 512 + r.val, by omega⟩

/-- Where an element of the result's block stands in the array. -/
theorem emb_idx {α : Type} (X : S8x4096x1024.Idx → α) (t : Fin cfg0.N) (r : Fin 512) (j : Fin 1024) :
    X (((cfg0.win 7).blk t).view.emb (ix3 0 r j)) = X (ix3 (bat t) (pos t r) j) := by
  blk_ext [idx t, bat, pos]

theorem blk0 (c : Dev nD) (t : Fin cfg0.N) (r : Fin 512) (l : Fin 1024) : iblk m c 0 t (ix3 0 r l)
    = m ((c : Thread nD τ).loc main_arg0) (ix3 (bat t) (pos t r) l) := by
  blk_ext! [iblk, V, idx t, bat, pos]

theorem blk1 (c : Dev nD) (t : Fin cfg0.N) (k j : Fin 1024) : iblk m c 1 t (ix2 k j) = m ((c : Thread nD τ).loc main_arg3) (ix2 k j) := by
  blk_ext! [iblk, V, idx t]

theorem blk2 (c : Dev nD) (t : Fin cfg0.N) (k j : Fin 1024) : iblk m c 2 t (ix2 k j) = m ((c : Thread nD τ).loc main_arg4) (ix2 k j) := by
  blk_ext! [iblk, V, idx t]

theorem blk3 (c : Dev nD) (t : Fin cfg0.N) (k d : Fin 256) (h : Fin 4) : iblk m c 3 t (ix3 0 k (col h d))
    = m ((c : Thread nD τ).loc main_arg1) (ix4 (bat t) k h d) := by
  blk_ext! [iblk, V, idx t, bat, col]

theorem blk4 (c : Dev nD) (t : Fin cfg0.N) (k d : Fin 256) (h : Fin 4) : iblk m c 4 t (ix3 0 k (col h d))
    = m ((c : Thread nD τ).loc main_arg2) (ix4 (bat t) k h d) := by
  blk_ext! [iblk, V, idx t, bat, col]

theorem blk5 (c : Dev nD) (t : Fin cfg0.N) (j : Fin 1024) : iblk m c 5 t (ix2 0 j) = m ((c : Thread nD τ).loc main_arg5) (ix1 j) := by
  blk_ext! [iblk, V, idx t]

theorem blk6 (c : Dev nD) (t : Fin cfg0.N) (j : Fin 1024) : iblk m c 6 t (ix2 0 j) = m ((c : Thread nD τ).loc main_arg6) (ix1 j) := by
  blk_ext! [iblk, V, idx t]

theorem final (c : Dev nD) : (dats m 0 c).arrAt 7 cfg0.N
    = val_main_v46 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨r, j, rfl⟩ : ∃ (r : Fin 512) (j : Fin 1024), y = ix3 0 r j := ⟨y 1, y 2, by
    refine (eq_ix3 y).trans ?_
    exact congrArg (fun z : Fin 1 => ix3 (n1 := 512) (n2 := 1024) z (y 1) (y 2)) (Subsingleton.elim _ _)⟩
  rw [emb_idx (val_main_v46 (F := Ideal) _ _ _ _ _ _ _), ref_apply]
  blk_simp
  rw [after0_7]
  refine (out_apply _ _ _ _ _ _ _ _ _).trans (lnAt_congr (fun k => ?_) (blk5 m c t j) (blk6 m c t j) rfl)
  refine congrArg₂ (· + ·) (congrArg _ (blk0 m c t r k)) (Finset.sum_congr rfl fun l _ => congrArg₂ (· * ·) ?_ (blk2 m c t l k))
  rw [ref_head]
  exact attAt_congr (fun d => Finset.sum_congr rfl fun l' _ => congrArg₂ (· * ·) (blk0 m c t r l') (blk1 m c t l' _)) (fun k' d => blk3 m c t k' d _) fun k' => blk4 m c t k' _ _

/-- The kernel and its reference give the same array. -/
theorem algebraic : Cert.algebraic_MemAttnIdeal_MemAttnRefIdeal := by
  pair_intro
  · run_from Cert.MemAttnIdeal.Value.run_blocks m g
  · run_from Cert.MemAttnRefIdeal.Value.run m' g'
    obtain ⟨h0, h1, h2, h3, h4, h5, h6⟩ := hagree c
    rw [val_main_v46_eq, final m c, h0, h1, h2, h3, h4, h5, h6]

end Cert.Proof.MemAttnValue
end
-- ==== Proof.InSample.lean ====
/- The call `in_proj` for the decoding batch, with the rotary embedding that follows it on the host: at the ideal numbers the kernel's four column
   ranges are the reference's one product cut into ranges, and the rotation of queries and keys is the same expression of them. -/
module

public import proofs.«01_k».proof.Defs
public import proofs.«01_k».proof.Proof.Gen.InSampleIdeal.Frame
public import proofs.«01_k».proof.Proof.Gen.InSampleRefIdeal.Read
public import Idealize.ShloMosaic.Lib.Claim
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Proof.Common

namespace Cert.Proof.InSampleValue

open Cert.InSampleIdeal Cert.InSampleIdeal.Gen

variable (m : (ℓ : Loc nD τ sig) → Buf (Elt Ideal) ℓ) (ρ : Dev nD → PrngReg)

/-- The block indices of the windows at every grid point: the rows' windows move with the point, the weights' stay. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

/-- The product with the wide column range at an element. -/
theorem pay2_apply (x : Vec Ideal S32x1024 .f32) (w : Vec Ideal S1024x1824 .bf16) (y : S32x1824.Idx) :
    k0_pay2 (F := Ideal) x w y = ∑ k : Fin 1024, x (ix2 (n0 := 32) (y 0) k) * w (ix2 (n1 := 1824) k (y 1)) := by
  unfold k0_pay2 k0_pay1
  rw [shapeCast_self, shapeCast_self]
  exact matmul_zero_apply (φ₁ := .bf16) (φ₂ := .bf16) none x w y

/-- The product with a narrow column range at an element. -/
theorem pay3_apply (x : Vec Ideal S32x1024 .f32) (w : Vec Ideal S1024x512 .bf16) (y : S32x512.Idx) :
    k0_pay3 (F := Ideal) x w y = ∑ k : Fin 1024, x (ix2 (n0 := 32) (y 0) k) * w (ix2 (n1 := 512) k (y 1)) := by
  unfold k0_pay3 k0_pay1
  rw [shapeCast_self, shapeCast_self]
  exact matmul_zero_apply (φ₁ := .bf16) (φ₂ := .bf16) none x w y

/-- An array of the reference's shape with its two leading axes joined, at an element. -/
theorem flat_apply (v : Vec Ideal Cert.InSampleRefIdeal.S32x1x512 .f32) (i : S32x512.Idx) :
    shapeCast S32x512 v Cert.InSampleRefIdeal.Facts₀.shapeCasts_S32x1x512_S32x512 i = v (Cert.InSampleRefIdeal.Read.idx_main_v68 i) :=
  shapeCast_apply v Cert.InSampleRefIdeal.Facts₀.shapeCasts_S32x1x512_S32x512 i (Cert.InSampleRefIdeal.Read.idx_main_v68 i)
    (by rewrite [Shape.rowMajor_val_three, Shape.rowMajor_val_two]; have h0 : (i 0).val < 32 := (i 0).isLt; have h1 : (i 1).val < 512 := (i 1).isLt; show (((i 0).val * 512 + (i 1).val) / 512 * 1 + 0) * 512 + ((i 0).val * 512 + (i 1).val) % 512 = (i 0).val * 512 + (i 1).val; omega)

theorem final5 (c : Dev nD) : (dats m 0 c).arrAt 5 cfg0.N
    = Cert.InSampleRefIdeal.Read.val_main_v9 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [Cert.InSampleRefIdeal.Read.val_main_v9_apply, Cert.InSampleRefIdeal.Read.val_main_v8_apply, Cert.InSampleRefIdeal.Read.val_main_v0_apply]
  refine (pay2_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

set_option maxHeartbeats 2000000 in
theorem final6 (c : Dev nD) : (dats m 0 c).arrAt 6 cfg0.N
    = shapeCast S32x512 (Cert.InSampleRefIdeal.Read.val_main_v2 (F := Ideal) (m ((c : Thread nD τ).loc main_arg0)) (m ((c : Thread nD τ).loc main_arg1))) Cert.InSampleRefIdeal.Facts₀.shapeCasts_S32x1x512_S32x512 := by
  refine (dats m 0 c).arrAt_eq_of_covers 6 _ (by decide +kernel) fun t hf y => ?_
  blk_simp
  rw [after0_6]
  frame_out
  rw [flat_apply, Cert.InSampleRefIdeal.Read.val_main_v2_apply, Cert.InSampleRefIdeal.Read.val_main_v1_apply, Cert.InSampleRefIdeal.Read.val_main_v0_apply]
  refine (pay3_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

set_option maxHeartbeats 2000000 in
theorem final7 (c : Dev nD) : (dats m 0 c).arrAt 7 cfg0.N
    = shapeCast S32x512 (Cert.InSampleRefIdeal.Read.val_main_v3 (F := Ideal) (m ((c : Thread nD τ).loc main_arg0)) (m ((c : Thread nD τ).loc main_arg1))) Cert.InSampleRefIdeal.Facts₀.shapeCasts_S32x1x512_S32x512 := by
  refine (dats m 0 c).arrAt_eq_of_covers 7 _ (by decide +kernel) fun t hf y => ?_
  blk_simp
  rw [after0_7]
  frame_out
  rw [flat_apply, Cert.InSampleRefIdeal.Read.val_main_v3_apply, Cert.InSampleRefIdeal.Read.val_main_v1_apply, Cert.InSampleRefIdeal.Read.val_main_v0_apply]
  refine (pay3_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

set_option maxHeartbeats 2000000 in
theorem final8 (c : Dev nD) : (dats m 0 c).arrAt 8 cfg0.N
    = Cert.InSampleRefIdeal.Read.val_main_v68 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  frame_out
  rw [Cert.InSampleRefIdeal.Read.val_main_v68_apply, Cert.InSampleRefIdeal.Read.val_main_v4_apply, Cert.InSampleRefIdeal.Read.val_main_v1_apply,
    Cert.InSampleRefIdeal.Read.val_main_v0_apply]
  refine (pay3_apply _ _ y).trans (Fin.sum_fin_congr fun k => ?_)
  congr 1
  · simp only [iblk, V, V0, List.flatten_cons, List.flatten_nil, List.append_nil]
    blk_simp [idx t]
    entry_read
    pointwise
    blk_ext [idx t]
  · simp only [iblk, V, V0, List.flatten_cons, List.flatten_nil, List.append_nil]
    blk_simp [idx t]
    entry_read
    pointwise
    blk_ext [idx t]

/-- Joining the leading axes and then taking the heads apart is taking the heads apart. -/
theorem heads (v : Vec Ideal Cert.InSampleRefIdeal.S32x1x512 .f32) : shapeCast S32x1x8x64 (shapeCast S32x512 v Cert.InSampleRefIdeal.Facts₀.shapeCasts_S32x1x512_S32x512) Cert.InSampleIdeal.Facts₀.shapeCasts_S32x512_S32x1x8x64
    = shapeCast Cert.InSampleRefIdeal.S32x1x8x64 v Cert.InSampleRefIdeal.Facts₀.shapeCasts_S32x1x512_S32x1x8x64 :=
  shapeCast_comp _ _ _

/-- The arrays the region leaves, read at the arrays of queries and keys. -/
theorem left6 (c : Dev nD) : Pipeline.withArrays (cfgs 0).spec c (V0 m c) (fun w => (dats m 0 c).arrAt w (cfgs 0).N) (Proc.devRef .tc main_v6_1)
    = shapeCast S32x512 (Cert.InSampleRefIdeal.Read.val_main_v2 (F := Ideal) (m ((c : Thread nD τ).loc main_arg0)) (m ((c : Thread nD τ).loc main_arg1))) Cert.InSampleRefIdeal.Facts₀.shapeCasts_S32x1x512_S32x512 :=
  (Pipeline.withArrays_arr (cfgs 0).spec (by decide) c (V0 m c) (fun w => (dats m 0 c).arrAt w (cfgs 0).N) 6).trans (final6 m c)

theorem left7 (c : Dev nD) : Pipeline.withArrays (cfgs 0).spec c (V0 m c) (fun w => (dats m 0 c).arrAt w (cfgs 0).N) (Proc.devRef .tc main_v6_2)
    = shapeCast S32x512 (Cert.InSampleRefIdeal.Read.val_main_v3 (F := Ideal) (m ((c : Thread nD τ).loc main_arg0)) (m ((c : Thread nD τ).loc main_arg1))) Cert.InSampleRefIdeal.Facts₀.shapeCasts_S32x1x512_S32x512 :=
  (Pipeline.withArrays_arr (cfgs 0).spec (by decide) c (V0 m c) (fun w => (dats m 0 c).arrAt w (cfgs 0).N) 7).trans (final7 m c)

set_option maxHeartbeats 8000000 in
/-- The rotated queries as the host leaves them. -/
theorem turned6 (c : Dev nD) : Pipeline.afterTail₀ cfgs (dats m) 0 (V0 m) [hostOps1] c main_v38
    = Cert.InSampleRefIdeal.Read.val_main_v38 (F := Ideal) (m ((c : Thread nD τ).loc main_arg0)) (m ((c : Thread nD τ).loc main_arg1)) := by
  unfold Pipeline.afterTail₀
  have h := left6 m c
  generalize Pipeline.withArrays (cfgs 0).spec c (V0 m c) (fun w => (dats m 0 c).arrAt w (cfgs 0).N) = W at h ⊢
  simp only [List.flatten_cons, List.flatten_nil, List.append_nil]
  after_results_simp
  refine join_congr ?_ ?_ _
  · after_results_simp
    rw [h]
    unfold Cert.InSampleRefIdeal.Read.val_main_v32 Cert.InSampleRefIdeal.Read.val_main_v29 Cert.InSampleRefIdeal.Read.val_main_v31 Cert.InSampleRefIdeal.Read.val_main_v26 Cert.InSampleRefIdeal.Read.val_main_v27 Cert.InSampleRefIdeal.Read.val_main_v10
    exact congrArg₂ (subf (F := Ideal) (φ := .f32)) (congrArg₂ (mulf (F := Ideal) (φ := .f32)) (congrArg (fun z => extractStridedSlice (s := S32x1x8x64) S32x1x8x32 ![0, 0, 0, 0] z Facts₀.slices_S32x1x8x64_S32x1x8x32_0_0_0_0) (heads _)) rfl)
      (congrArg₂ (mulf (F := Ideal) (φ := .f32)) (congrArg (fun z => extractStridedSlice (s := S32x1x8x64) S32x1x8x32 ![0, 0, 0, 32] z Facts₀.slices_S32x1x8x64_S32x1x8x32_0_0_0_32) (heads _)) rfl)
  · after_results_simp
    rw [h]
    unfold Cert.InSampleRefIdeal.Read.val_main_v37 Cert.InSampleRefIdeal.Read.val_main_v34 Cert.InSampleRefIdeal.Read.val_main_v36 Cert.InSampleRefIdeal.Read.val_main_v27 Cert.InSampleRefIdeal.Read.val_main_v26 Cert.InSampleRefIdeal.Read.val_main_v10
    exact congrArg₂ (addf (F := Ideal) (φ := .f32)) (congrArg₂ (mulf (F := Ideal) (φ := .f32)) (congrArg (fun z => extractStridedSlice (s := S32x1x8x64) S32x1x8x32 ![0, 0, 0, 32] z Facts₀.slices_S32x1x8x64_S32x1x8x32_0_0_0_32) (heads _)) rfl)
      (congrArg₂ (mulf (F := Ideal) (φ := .f32)) (congrArg (fun z => extractStridedSlice (s := S32x1x8x64) S32x1x8x32 ![0, 0, 0, 0] z Facts₀.slices_S32x1x8x64_S32x1x8x32_0_0_0_0) (heads _)) rfl)

set_option maxHeartbeats 8000000 in
/-- The rotated keys as the host leaves them. -/
theorem turned7 (c : Dev nD) : Pipeline.afterTail₀ cfgs (dats m) 0 (V0 m) [hostOps1] c main_v67
    = Cert.InSampleRefIdeal.Read.val_main_v67 (F := Ideal) (m ((c : Thread nD τ).loc main_arg0)) (m ((c : Thread nD τ).loc main_arg1)) := by
  unfold Pipeline.afterTail₀
  have h := left7 m c
  generalize Pipeline.withArrays (cfgs 0).spec c (V0 m c) (fun w => (dats m 0 c).arrAt w (cfgs 0).N) = W at h ⊢
  simp only [List.flatten_cons, List.flatten_nil, List.append_nil]
  after_results_simp
  refine join_congr ?_ ?_ _
  · after_results_simp
    rw [h]
    unfold Cert.InSampleRefIdeal.Read.val_main_v61 Cert.InSampleRefIdeal.Read.val_main_v58 Cert.InSampleRefIdeal.Read.val_main_v60 Cert.InSampleRefIdeal.Read.val_main_v55 Cert.InSampleRefIdeal.Read.val_main_v56 Cert.InSampleRefIdeal.Read.val_main_v39
    exact congrArg₂ (subf (F := Ideal) (φ := .f32)) (congrArg₂ (mulf (F := Ideal) (φ := .f32)) (congrArg (fun z => extractStridedSlice (s := S32x1x8x64) S32x1x8x32 ![0, 0, 0, 0] z Facts₀.slices_S32x1x8x64_S32x1x8x32_0_0_0_0) (heads _)) rfl)
      (congrArg₂ (mulf (F := Ideal) (φ := .f32)) (congrArg (fun z => extractStridedSlice (s := S32x1x8x64) S32x1x8x32 ![0, 0, 0, 32] z Facts₀.slices_S32x1x8x64_S32x1x8x32_0_0_0_32) (heads _)) rfl)
  · after_results_simp
    rw [h]
    unfold Cert.InSampleRefIdeal.Read.val_main_v66 Cert.InSampleRefIdeal.Read.val_main_v63 Cert.InSampleRefIdeal.Read.val_main_v65 Cert.InSampleRefIdeal.Read.val_main_v55 Cert.InSampleRefIdeal.Read.val_main_v56 Cert.InSampleRefIdeal.Read.val_main_v39
    exact congrArg₂ (addf (F := Ideal) (φ := .f32)) (congrArg₂ (mulf (F := Ideal) (φ := .f32)) (congrArg (fun z => extractStridedSlice (s := S32x1x8x64) S32x1x8x32 ![0, 0, 0, 32] z Facts₀.slices_S32x1x8x64_S32x1x8x32_0_0_0_32) (heads _)) rfl)
      (congrArg₂ (mulf (F := Ideal) (φ := .f32)) (congrArg (fun z => extractStridedSlice (s := S32x1x8x64) S32x1x8x32 ![0, 0, 0, 0] z Facts₀.slices_S32x1x8x64_S32x1x8x32_0_0_0_0) (heads _)) rfl)

/-- The kernel's run with its results named by the reference's stages. -/
theorem run_kernel : θ_run defs (onTc (τ := τ) (main (F := Ideal))) ⟨m, fun _ => 0, ρ⟩ fun r => ∀ c : Dev nD,
      r.2.mem ((c : Thread nD τ).loc main_v6_0) = Cert.InSampleRefIdeal.Read.val_main_v9 (F := Ideal) (m ((c : Thread nD τ).loc main_arg0)) (m ((c : Thread nD τ).loc main_arg1))
      ∧ r.2.mem ((c : Thread nD τ).loc main_v38) = Cert.InSampleRefIdeal.Read.val_main_v38 (F := Ideal) (m ((c : Thread nD τ).loc main_arg0)) (m ((c : Thread nD τ).loc main_arg1))
      ∧ r.2.mem ((c : Thread nD τ).loc main_v67) = Cert.InSampleRefIdeal.Read.val_main_v67 (F := Ideal) (m ((c : Thread nD τ).loc main_arg0)) (m ((c : Thread nD τ).loc main_arg1))
      ∧ r.2.mem ((c : Thread nD τ).loc main_v6_3) = Cert.InSampleRefIdeal.Read.val_main_v68 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 5).trans (final5 m c),
      ((h c).2 main_v38 (Pipeline.mem_restRefs_of main_v38 (by decide) (by decide))).trans (turned6 m c),
      ((h c).2 main_v67 (Pipeline.mem_restRefs_of main_v67 (by decide) (by decide))).trans (turned7 m c),
      ((h c).1 8).trans (final8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The kernel and its reference give the same four arrays. -/
theorem algebraic : Cert.algebraic_InSampleIdeal_InSampleRefIdeal := by
  pair_intro
  · exact run_kernel m g
  · refine (θ_run _ _ _).mono (fun r h c => ?_) (Cert.InSampleRefIdeal.Value.run m' g')
    obtain ⟨h0, h1, h2, h3, h4, h5⟩ := h c
    obtain ⟨e0, e1⟩ := hagree c
    refine ⟨?_, ?_, ?_, ?_, h4, h5⟩
    · rw [← e0, ← e1]; exact h0
    · rw [← e0, ← e1]; exact h1.trans (Cert.InSampleRefIdeal.Read.val_main_v38_eq m' c)
    · rw [← e0, ← e1]; exact h2.trans (Cert.InSampleRefIdeal.Read.val_main_v67_eq m' c)
    · rw [← e0, ← e1]; exact h3

end Cert.Proof.InSampleValue
end
-- ==== Proof.RouteRounds.lean ====
/- The routing kernel's block program, written as rounds: one round takes the greatest score of a column, the least row number that has it, and the
   block with that row struck out. A head is two score blocks, sixteen rounds on each, a block of 136 pair sums, and sixteen rounds on it. -/
module

public import proofs.«01_k».proof.Defs
public import proofs.«01_k».proof.Proof.Gen.RouteIdeal.Frame

@[expose] public section

noncomputable section

namespace Cert.Proof.RouteRounds

open Idealize.ShloMosaic Idealize.SL.Sem Cert.RouteIdeal Cert.RouteIdeal.Gen

variable {F : FTy → Type} [FloatOps F]

/-- A block of `n` rows by 256 columns. -/
abbrev Blk (n : Nat) : Shape := ⟨2, ![n, 256]⟩

theorem red (n : Nat) : (Blk n).Reduces [0] S256 :=
  ⟨rfl, Nat.one_pos, fun b => by
    have hb : b = 0 := Subsingleton.elim _ _
    subst hb
    rfl⟩

theorem bc (n : Nat) : S1x256.Broadcasts (Blk n) :=
  ⟨Nat.le_refl 2, fun a => by
    match a with
    | ⟨0, _⟩ => exact Or.inl rfl
    | ⟨1, _⟩ => exact Or.inr fun _ => rfl⟩

/-- The greatest element of each column. -/
def rMax {n : Nat} (s : FVec F (Blk n) .f32) : FVec F S1x256 .f32 :=
  shapeCast S1x256 (multiReduction .maximumf [0] S256 s 0xFF800000#32 (red n) (.inl rfl) rfl) shapeCasts_S256_S1x256

/-- The least of the row names `p` whose element is its column's greatest; `K` where none is. -/
def rIdx {n : Nat} (p : IVec (Blk n) 32) (K : BitVec 32) (s : FVec F (Blk n) .f32) : IVec S1x256 32 :=
  shapeCast S1x256 (multiReductionI .minsi [0] S256
    (select (cmpf .oeq s (broadcastTo (Blk n) (rMax s) (bc n))) p (broadcast (Blk n) K)) 2147483647#32 (red n) rfl) shapeCasts_S256_S1x256

/-- Where the row name is the picked one. -/
def rHit {n : Nat} (p : IVec (Blk n) 32) (K : BitVec 32) (s : FVec F (Blk n) .f32) : IVec (Blk n) 1 :=
  cmpi .eq p (broadcastTo (Blk n) (rIdx p K s) (bc n))

/-- The block with the picked row struck out. -/
def rNext {n : Nat} (p : IVec (Blk n) 32) (K : BitVec 32) (s : FVec F (Blk n) .f32) : FVec F (Blk n) .f32 :=
  select (rHit p K s) (broadcast (Blk n) (Scalar.ofBits .f32 0xFF800000#32)) s

/-- What the picked row holds in a second block of integers. -/
def rSum {n : Nat} (p : IVec (Blk n) 32) (K : BitVec 32) (ci : IVec (Blk n) 32) (s : FVec F (Blk n) .f32) : IVec S1x256 32 :=
  shapeCast S1x256 (multiReductionI .add [0] S256 (select (rHit p K s) ci (broadcast (Blk n) 0#32)) 0#32 (red n) rfl) shapeCasts_S256_S1x256

/-- The block before round `r`. -/
def st {n : Nat} (p : IVec (Blk n) 32) (K : BitVec 32) (s : FVec F (Blk n) .f32) : Nat → FVec F (Blk n) .f32
  | 0 => s
  | r + 1 => rNext p K (st p K s r)

/-- The row numbers of a score block. -/
def rowNo : IVec (Blk 128) 32 := iota .tc S128x256 32 [0] iota_S128x256_d0_w32

/-- Round `r`'s value and row number of a score block. -/
def kV (s : FVec F (Blk 128) .f32) (r : Nat) : FVec F S1x256 .f32 := rMax (st rowNo 128#32 s r)
def kI (s : FVec F (Blk 128) .f32) (r : Nat) : IVec S1x256 32 := rIdx rowNo 128#32 (st rowNo 128#32 s r)

def v16 (s : FVec F (Blk 128) .f32) : FVec F S16x256 .f32 := concatenate S16x256 0 [⟨S1x256, kV s 0⟩, ⟨S1x256, kV s 1⟩, ⟨S1x256, kV s 2⟩, ⟨S1x256, kV s 3⟩, ⟨S1x256, kV s 4⟩, ⟨S1x256, kV s 5⟩, ⟨S1x256, kV s 6⟩, ⟨S1x256, kV s 7⟩, ⟨S1x256, kV s 8⟩, ⟨S1x256, kV s 9⟩, ⟨S1x256, kV s 10⟩, ⟨S1x256, kV s 11⟩, ⟨S1x256, kV s 12⟩, ⟨S1x256, kV s 13⟩, ⟨S1x256, kV s 14⟩, ⟨S1x256, kV s 15⟩] concatenates_S1x256_S1x256_S1x256_S1x256_S1x256_S1x256_S1x256_S1x256_S1x256_S1x256_S1x256_S1x256_S1x256_S1x256_S1x256_S1x256_S16x256_d0
def v8 (s : FVec F (Blk 128) .f32) : FVec F S8x256 .f32 := concatenate S8x256 0 [⟨S1x256, kV s 0⟩, ⟨S1x256, kV s 1⟩, ⟨S1x256, kV s 2⟩, ⟨S1x256, kV s 3⟩, ⟨S1x256, kV s 4⟩, ⟨S1x256, kV s 5⟩, ⟨S1x256, kV s 6⟩, ⟨S1x256, kV s 7⟩] concatenates_S1x256_S1x256_S1x256_S1x256_S1x256_S1x256_S1x256_S1x256_S8x256_d0
def i16 (s : FVec F (Blk 128) .f32) : IVec S16x256 32 := concatenate S16x256 0 [⟨S1x256, kI s 0⟩, ⟨S1x256, kI s 1⟩, ⟨S1x256, kI s 2⟩, ⟨S1x256, kI s 3⟩, ⟨S1x256, kI s 4⟩, ⟨S1x256, kI s 5⟩, ⟨S1x256, kI s 6⟩, ⟨S1x256, kI s 7⟩, ⟨S1x256, kI s 8⟩, ⟨S1x256, kI s 9⟩, ⟨S1x256, kI s 10⟩, ⟨S1x256, kI s 11⟩, ⟨S1x256, kI s 12⟩, ⟨S1x256, kI s 13⟩, ⟨S1x256, kI s 14⟩, ⟨S1x256, kI s 15⟩] concatenates_S1x256_S1x256_S1x256_S1x256_S1x256_S1x256_S1x256_S1x256_S1x256_S1x256_S1x256_S1x256_S1x256_S1x256_S1x256_S1x256_S16x256_d0
def i8 (s : FVec F (Blk 128) .f32) : IVec S8x256 32 := concatenate S8x256 0 [⟨S1x256, kI s 0⟩, ⟨S1x256, kI s 1⟩, ⟨S1x256, kI s 2⟩, ⟨S1x256, kI s 3⟩, ⟨S1x256, kI s 4⟩, ⟨S1x256, kI s 5⟩, ⟨S1x256, kI s 6⟩, ⟨S1x256, kI s 7⟩] concatenates_S1x256_S1x256_S1x256_S1x256_S1x256_S1x256_S1x256_S1x256_S8x256_d0

/-- The pair sums of one first value with the second values. -/
def cand0 (s1 s2 : FVec F (Blk 128) .f32) : FVec F S16x256 .f32 := addf (broadcastTo S16x256 (kV s1 0) broadcasts_S1x256_S16x256) (v16 s2)
def cand8 (s1 s2 : FVec F (Blk 128) .f32) (a : Nat) : FVec F S8x256 .f32 := addf (broadcastTo S8x256 (kV s1 a) broadcasts_S1x256_S8x256) (v8 s2)
def candI0 (s1 s2 : FVec F (Blk 128) .f32) : IVec S16x256 32 :=
  addi (broadcastTo S16x256 (muli (kI s1 0) (broadcast S1x256 128#32)) broadcasts_S1x256_S16x256) (i16 s2)
def candI8 (s1 s2 : FVec F (Blk 128) .f32) (a : Nat) : IVec S8x256 32 :=
  addi (broadcastTo S8x256 (muli (kI s1 a) (broadcast S1x256 128#32)) broadcasts_S1x256_S8x256) (i8 s2)
def pos0 : IVec S16x256 32 := addi (broadcast S16x256 0#32) (iota .tc S16x256 32 [0] iota_S16x256_d0_w32)
def pos8 (a : Nat) : IVec S8x256 32 := addi (broadcast S8x256 (BitVec.ofNat 32 (16 * a))) (iota .tc S8x256 32 [0] iota_S8x256_d0_w32)

/-- The 136 pair sums, the pairs' numbers, and their names. -/
def cand (s1 s2 : FVec F (Blk 128) .f32) : FVec F (Blk 136) .f32 :=
  concatenate S136x256 0 [⟨S16x256, cand0 s1 s2⟩, ⟨S8x256, cand8 s1 s2 1⟩, ⟨S8x256, cand8 s1 s2 2⟩, ⟨S8x256, cand8 s1 s2 3⟩, ⟨S8x256, cand8 s1 s2 4⟩, ⟨S8x256, cand8 s1 s2 5⟩, ⟨S8x256, cand8 s1 s2 6⟩, ⟨S8x256, cand8 s1 s2 7⟩, ⟨S8x256, cand8 s1 s2 8⟩, ⟨S8x256, cand8 s1 s2 9⟩, ⟨S8x256, cand8 s1 s2 10⟩, ⟨S8x256, cand8 s1 s2 11⟩, ⟨S8x256, cand8 s1 s2 12⟩, ⟨S8x256, cand8 s1 s2 13⟩, ⟨S8x256, cand8 s1 s2 14⟩, ⟨S8x256, cand8 s1 s2 15⟩] concatenates_S16x256_S8x256_S8x256_S8x256_S8x256_S8x256_S8x256_S8x256_S8x256_S8x256_S8x256_S8x256_S8x256_S8x256_S8x256_S8x256_S136x256_d0
def candI (s1 s2 : FVec F (Blk 128) .f32) : IVec (Blk 136) 32 :=
  concatenate S136x256 0 [⟨S16x256, candI0 s1 s2⟩, ⟨S8x256, candI8 s1 s2 1⟩, ⟨S8x256, candI8 s1 s2 2⟩, ⟨S8x256, candI8 s1 s2 3⟩, ⟨S8x256, candI8 s1 s2 4⟩, ⟨S8x256, candI8 s1 s2 5⟩, ⟨S8x256, candI8 s1 s2 6⟩, ⟨S8x256, candI8 s1 s2 7⟩, ⟨S8x256, candI8 s1 s2 8⟩, ⟨S8x256, candI8 s1 s2 9⟩, ⟨S8x256, candI8 s1 s2 10⟩, ⟨S8x256, candI8 s1 s2 11⟩, ⟨S8x256, candI8 s1 s2 12⟩, ⟨S8x256, candI8 s1 s2 13⟩, ⟨S8x256, candI8 s1 s2 14⟩, ⟨S8x256, candI8 s1 s2 15⟩] concatenates_S16x256_S8x256_S8x256_S8x256_S8x256_S8x256_S8x256_S8x256_S8x256_S8x256_S8x256_S8x256_S8x256_S8x256_S8x256_S8x256_S136x256_d0
def pos : IVec (Blk 136) 32 :=
  concatenate S136x256 0 [⟨S16x256, pos0⟩, ⟨S8x256, pos8 1⟩, ⟨S8x256, pos8 2⟩, ⟨S8x256, pos8 3⟩, ⟨S8x256, pos8 4⟩, ⟨S8x256, pos8 5⟩, ⟨S8x256, pos8 6⟩, ⟨S8x256, pos8 7⟩, ⟨S8x256, pos8 8⟩, ⟨S8x256, pos8 9⟩, ⟨S8x256, pos8 10⟩, ⟨S8x256, pos8 11⟩, ⟨S8x256, pos8 12⟩, ⟨S8x256, pos8 13⟩, ⟨S8x256, pos8 14⟩, ⟨S8x256, pos8 15⟩] concatenates_S16x256_S8x256_S8x256_S8x256_S8x256_S8x256_S8x256_S8x256_S8x256_S8x256_S8x256_S8x256_S8x256_S8x256_S8x256_S8x256_S136x256_d0

def cV (s1 s2 : FVec F (Blk 128) .f32) (r : Nat) : FVec F S1x256 .f32 := rMax (st pos 256#32 (cand s1 s2) r)
def cE (s1 s2 : FVec F (Blk 128) .f32) (r : Nat) : IVec S1x256 32 := rSum pos 256#32 (candI s1 s2) (st pos 256#32 (cand s1 s2) r)

/-- A head's sixteen expert numbers. -/
def headE (s1 s2 : FVec F (Blk 128) .f32) : IVec S16x256 32 := concatenate S16x256 0 [⟨S1x256, cE s1 s2 0⟩, ⟨S1x256, cE s1 s2 1⟩, ⟨S1x256, cE s1 s2 2⟩, ⟨S1x256, cE s1 s2 3⟩, ⟨S1x256, cE s1 s2 4⟩, ⟨S1x256, cE s1 s2 5⟩, ⟨S1x256, cE s1 s2 6⟩, ⟨S1x256, cE s1 s2 7⟩, ⟨S1x256, cE s1 s2 8⟩, ⟨S1x256, cE s1 s2 9⟩, ⟨S1x256, cE s1 s2 10⟩, ⟨S1x256, cE s1 s2 11⟩, ⟨S1x256, cE s1 s2 12⟩, ⟨S1x256, cE s1 s2 13⟩, ⟨S1x256, cE s1 s2 14⟩, ⟨S1x256, cE s1 s2 15⟩] concatenates_S1x256_S1x256_S1x256_S1x256_S1x256_S1x256_S1x256_S1x256_S1x256_S1x256_S1x256_S1x256_S1x256_S1x256_S1x256_S1x256_S16x256_d0
def top (s1 s2 : FVec F (Blk 128) .f32) : FVec F S16x256 .f32 := concatenate S16x256 0 [⟨S1x256, cV s1 s2 0⟩, ⟨S1x256, cV s1 s2 1⟩, ⟨S1x256, cV s1 s2 2⟩, ⟨S1x256, cV s1 s2 3⟩, ⟨S1x256, cV s1 s2 4⟩, ⟨S1x256, cV s1 s2 5⟩, ⟨S1x256, cV s1 s2 6⟩, ⟨S1x256, cV s1 s2 7⟩, ⟨S1x256, cV s1 s2 8⟩, ⟨S1x256, cV s1 s2 9⟩, ⟨S1x256, cV s1 s2 10⟩, ⟨S1x256, cV s1 s2 11⟩, ⟨S1x256, cV s1 s2 12⟩, ⟨S1x256, cV s1 s2 13⟩, ⟨S1x256, cV s1 s2 14⟩, ⟨S1x256, cV s1 s2 15⟩] concatenates_S1x256_S1x256_S1x256_S1x256_S1x256_S1x256_S1x256_S1x256_S1x256_S1x256_S1x256_S1x256_S1x256_S1x256_S1x256_S1x256_S16x256_d0
def prob (T : FVec F S16x256 .f32) : FVec F S16x256 .f32 :=
  exp (subf T (broadcastTo S16x256 (extractStridedSlice S1x256 ![0, 0] T slices_S16x256_o0_0_S1x256) broadcasts_S1x256_S16x256))
/-- A head's sixteen weights. -/
def headG (s1 s2 : FVec F (Blk 128) .f32) : FVec F S16x256 .f32 :=
  divf (prob (top s1 s2)) (broadcastTo S16x256 (shapeCast S1x256 (multiReduction .add [0] S256 (prob (top s1 s2)) 0x00000000#32
    reduces_S16x256_S256 (.inl rfl) rfl) shapeCasts_S256_S1x256) broadcasts_S1x256_S16x256)

theorem slq (o : Nat) (h : o + 128 ≤ 2048) : S256x2048.Slices ![0, o] S256x128 :=
  ⟨rfl, fun a => by
    match a with
    | ⟨0, _⟩ => exact Nat.le_refl 256
    | ⟨1, _⟩ => exact h⟩

/-- A score block: a slice of 128 columns of the queries against one table of keys. -/
def score (q : FVec F S256x2048 .f32) (w : Vec F S1x128x128 .bf16) (o : Nat) (h : o + 128 ≤ 2048) : FVec F (Blk 128) .f32 :=
  matmul dot_S128x128_S256x128_S128x256_1_1_0_0_n_n none (shapeCast S128x128 w shapeCasts_S1x128x128_S128x128)
    (truncf .bf16 (extractStridedSlice S256x128 ![0, o] q (slq o h)) bitsLt_bf16_f32) (constant S128x256 .f32 0x00000000#32)

section
variable (x0 : Vec F S256x1024 .f32) (x1 : Vec F S1024x2048 .bf16) (x2 : Vec F S2x128x128 .bf16)

def quer : FVec F S256x2048 .f32 := k0_pay4 (View.ld x0 r0_0) (View.ld x1 r0_1)
def sc1 (h : Fin 8) : FVec F (Blk 128) .f32 := score (quer x0 x1) (View.ld x2 r0_2) (256 * h.val) (by have := h.isLt; omega)
def sc2 (h : Fin 8) : FVec F (Blk 128) .f32 := score (quer x0 x1) (View.ld x2 r0_3) (256 * h.val + 128) (by have := h.isLt; omega)

theorem out_3 : out0_3 x0 x1 x2 = View.canon [⟨r0_11, headE (sc1 x0 x1 x2 7) (sc2 x0 x1 x2 7)⟩, ⟨r0_10, headE (sc1 x0 x1 x2 6) (sc2 x0 x1 x2 6)⟩, ⟨r0_9, headE (sc1 x0 x1 x2 5) (sc2 x0 x1 x2 5)⟩, ⟨r0_8, headE (sc1 x0 x1 x2 4) (sc2 x0 x1 x2 4)⟩, ⟨r0_7, headE (sc1 x0 x1 x2 3) (sc2 x0 x1 x2 3)⟩, ⟨r0_6, headE (sc1 x0 x1 x2 2) (sc2 x0 x1 x2 2)⟩, ⟨r0_5, headE (sc1 x0 x1 x2 1) (sc2 x0 x1 x2 1)⟩, ⟨r0_4, headE (sc1 x0 x1 x2 0) (sc2 x0 x1 x2 0)⟩] := by
  rfl

theorem out_4 : out0_4 x0 x1 x2 = View.canon [⟨r0_11, headG (sc1 x0 x1 x2 7) (sc2 x0 x1 x2 7)⟩, ⟨r0_10, headG (sc1 x0 x1 x2 6) (sc2 x0 x1 x2 6)⟩, ⟨r0_9, headG (sc1 x0 x1 x2 5) (sc2 x0 x1 x2 5)⟩, ⟨r0_8, headG (sc1 x0 x1 x2 4) (sc2 x0 x1 x2 4)⟩, ⟨r0_7, headG (sc1 x0 x1 x2 3) (sc2 x0 x1 x2 3)⟩, ⟨r0_6, headG (sc1 x0 x1 x2 2) (sc2 x0 x1 x2 2)⟩, ⟨r0_5, headG (sc1 x0 x1 x2 1) (sc2 x0 x1 x2 1)⟩, ⟨r0_4, headG (sc1 x0 x1 x2 0) (sc2 x0 x1 x2 0)⟩] := by
  rfl

end

end Cert.Proof.RouteRounds

end
-- ==== Proof.RouteSort.lean ====
/- Positions sorted by value, the greatest first and of equal values the lower position first: the order in which repeated maximum picks them, and the
   order in which a sort that compares values only, and is stable, leaves them. -/
module

public import Idealize.ShloMosaic.Lib.SortPrefix
public import Idealize.ShloMosaic.Lib.SortFacts
public import Mathlib.Data.EReal.Basic

@[expose] public section

noncomputable section

namespace Cert.Proof.RouteSort

open Idealize.ShloMosaic

variable {n : Nat} (f : Fin n → EReal)

/-- Position `a` comes before position `b`. -/
def bef (a b : Fin n) : Bool := decide (f b < f a) || (decide (f a = f b) && decide (a < b))

theorem bef_iff (a b : Fin n) : bef f a b = true ↔ f b < f a ∨ (f a = f b ∧ a < b) := by
  simp [bef]

theorem bef_total : StrictTotalBefore (bef f) :=
  StrictTotalBefore.of_key_then_position (fun a b : EReal => decide (b < a)) f (by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)

/-- The position of rank `k`. -/
def ord : Fin n → Fin n := sortedFrom (bef f)

theorem ord_injective : Function.Injective (ord f) := sortedFrom_injective _
theorem ord_surjective : Function.Surjective (ord f) := sortedFrom_surjective _

theorem bef_ord {i j : Fin n} (h : i < j) : bef f (ord f i) (ord f j) = true := by
  have hB := bef_total f
  have h1 : bef f (ord f j) (ord f i) = false :=
    sortedFrom_noInversion (bef f) (bef f) (fun a b h => hB.asymm a b h) (fun _ _ h => h) hB.negTrans i j h
  rcases hB.total (ord f i) (ord f j) (fun e => absurd (ord_injective f e) (ne_of_lt h)) with e | e
  · exact e
  · rw [h1] at e; exact absurd e (by decide)

/-- Being before is having the lower rank. -/
theorem lt_of_bef {i j : Fin n} (h : bef f (ord f i) (ord f j) = true) : i < j := by
  have hB := bef_total f
  rcases lt_trichotomy i j with e | e | e
  · exact e
  · subst e; rw [hB.irrefl] at h; exact absurd h (by decide)
  · rw [hB.asymm _ _ (bef_ord f e)] at h; exact absurd h (by decide)

theorem stableSort_gt (l : List (Fin n)) (hl : l.Pairwise (· < ·)) :
    stableSort (fun a b => decide (f b < f a)) l = stableSort (bef f) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (le_of_lt (hl.1 b hb'))
    simp [bef, this]

/-- A stable sort that compares values only leaves the positions in this order. -/
theorem sortedFrom_gt : sortedFrom (fun a b => decide (f b < f a)) = ord f := by
  funext k
  unfold ord sortedFrom
  have : sortPositions n (fun a b => decide (f b < f a)) = sortPositions n (bef f) :=
    stableSort_gt f _ (List.pairwise_lt_finRange n)
  rw [List.get_of_eq this]
  rfl

/-- The values after `r` rounds: the first `r` picked are struck out. -/
def after (r : Nat) (x : Fin n) : EReal := by
  classical
  exact if ∃ i : Fin n, i.val < r ∧ ord f i = x then ⊥ else f x

theorem after_zero : after f 0 = f := by
  classical
  funext x
  unfold after
  rw [if_neg]
  rintro ⟨i, h, -⟩
  exact absurd h (Nat.not_lt_zero _)

theorem after_ord {r : Nat} (i : Fin n) (h : r ≤ i.val) : after f r (ord f i) = f (ord f i) := by
  classical
  unfold after
  rw [if_neg]
  rintro ⟨k, hk, e⟩
  have := ord_injective f e
  subst this
  omega

theorem after_succ (r : Nat) (hr : r < n) (x : Fin n) :
    after f (r + 1) x = if x = ord f ⟨r, hr⟩ then ⊥ else after f r x := by
  classical
  unfold after
  by_cases e : x = ord f ⟨r, hr⟩
  · rw [if_pos e, if_pos ⟨⟨r, hr⟩, Nat.lt_succ_self r, e.symm⟩]
  · rw [if_neg e]
    by_cases h : ∃ i : Fin n, i.val < r ∧ ord f i = x
    · obtain ⟨i, hi, hx⟩ := h
      rw [if_pos ⟨i, Nat.lt_succ_of_lt hi, hx⟩, if_pos ⟨i, hi, hx⟩]
    · rw [if_neg h, if_neg]
      rintro ⟨i, hi, hx⟩
      rcases Nat.lt_succ_iff_lt_or_eq.mp hi with h' | h'
      · exact h ⟨i, h', hx⟩
      · exact e (hx ▸ congrArg (ord f) (Fin.ext h'))

/-- A round picks the position of its rank. -/
theorem best (hf : ∀ x, f x ≠ ⊥) (r : Nat) (hr : r < n) (x : Fin n) (hx : x ≠ ord f ⟨r, hr⟩) :
    after f r x < after f r (ord f ⟨r, hr⟩)
      ∨ (after f r x = after f r (ord f ⟨r, hr⟩) ∧ ord f ⟨r, hr⟩ < x) := by
  obtain ⟨i, rfl⟩ := ord_surjective f x
  rw [after_ord f ⟨r, hr⟩ le_rfl]
  by_cases h : i.val < r
  · left
    have : after f r (ord f i) = ⊥ := by
      classical
      unfold after
      rw [if_pos ⟨i, h, rfl⟩]
    rw [this]
    exact bot_lt_iff_ne_bot.mpr (hf _)
  · rw [after_ord f i (by omega)]
    have hlt : (⟨r, hr⟩ : Fin n) < i := by
      refine lt_of_le_of_ne (Fin.mk_le_of_le_val (by omega)) fun e => hx (by rw [e])
    rcases (bef_iff f _ _).mp (bef_ord f hlt) with e | e
    · exact Or.inl e
    · exact Or.inr ⟨e.1.symm, e.2⟩

/-- Where a part of the positions, taken in order, holds every position with fewer than `k` others before it, its first `k` in the sorted order are the
    whole's. -/
theorem ord_of_part {m k : Nat} (e : Fin m → Fin n) (he : StrictMono e) (hk : k ≤ m) (hkn : k ≤ n)
    (hout : ∀ p, (∀ x, e x ≠ p) → ∃ w : Fin k → Fin m, Function.Injective w ∧ ∀ i, bef f (e (w i)) p = true) (i : Fin k) :
    ord f (i.castLE hkn) = e (ord (fun x => f (e x)) (i.castLE hk)) := by
  have hB := bef_total f
  have hbe : ∀ a b, bef f (e a) (e b) = bef (fun x => f (e x)) a b := fun a b => by
    simp [bef, he.lt_iff_lt]
  refine hB.sortedFrom_eq_of_prefix hkn (fun i => e (ord (fun x => f (e x)) (i.castLE hk))) ?_ ?_ ?_ i
  · intro a b h
    exact Fin.castLE_injective hk (ord_injective _ (he.injective h))
  · intro a b h
    refine hB.asymm _ _ ?_
    rw [hbe]
    exact bef_ord _ h
  · intro a p hp
    by_cases hin : ∃ x, e x = p
    · obtain ⟨x, rfl⟩ := hin
      obtain ⟨c, rfl⟩ := ord_surjective (fun x => f (e x)) x
      refine hB.asymm _ _ ?_
      rw [hbe]
      refine bef_ord _ (lt_of_le_of_ne ?_ fun h => hp a (by rw [h]))
      by_contra hc
      have hc' : c.val < k := by
        have := not_le.mp hc
        have h2 : c.val < a.val := this
        omega
      exact hp ⟨c.val, hc'⟩ rfl
    · obtain ⟨w, hw, hb⟩ := hout p fun x h => hin ⟨x, h⟩
      by_contra hc
      have hc' : bef f p (e (ord (fun x => f (e x)) (a.castLE hk))) = true := by simpa using hc
      choose g hg using fun i => ord_surjective (fun x => f (e x)) (w i)
      have hlt : ∀ i, (g i).val < a.val := fun i => by
        have h1 := hB.trans _ _ _ (hb i) hc'
        rw [hbe, ← hg i] at h1
        exact lt_of_bef _ h1
      have hginj : Function.Injective fun i : Fin k => (⟨(g i).val, hlt i⟩ : Fin a.val) := fun i j h => by
        have h1 : g i = g j := Fin.ext (by simpa using h)
        exact hw (by rw [← hg i, ← hg j, h1])
      have := Fintype.card_le_of_injective _ hginj
      simp only [Fintype.card_fin] at this
      exact absurd a.isLt (by omega)

end Cert.Proof.RouteSort

end
-- ==== Proof.RouteTop.lean ====
/- The reference's sorted prefixes and its lookup of one element per row, read at an element. -/
module

public import proofs.«01_k».proof.Proof.RouteSort
public import Idealize.ShloMosaic.Lib.ValueIdxCore
public import Idealize.ShloMosaic.Lib.Pipeline.ValueKit
public import Idealize.ShloMosaic.PureOps.Ideal.Laws

@[expose] public section

noncomputable section

namespace Cert.Proof.RouteTop

open Idealize.ShloMosaic hiding ix1 ix2 ix3 ix4
open Idealize.ShloMosaic.ValueIdx Cert.Proof.RouteSort

section
variable {A B n k : Nat}

theorem along_last (a : Fin A) (b : Fin B) (c q : Fin n) :
    Shape.Idx.along (s := ⟨3, ![A, B, n]⟩) (ix3 a b c) 2 q = ix3 a b q := by
  funext d
  match d with
  | ⟨0, _⟩ => rfl
  | ⟨1, _⟩ => rfl
  | ⟨2, _⟩ => rfl

theorem order_eq (x : FVec Ideal ⟨3, ![A, B, n]⟩ .f32) (a : Fin A) (b : Fin B) (c : Fin n) :
    sortedFrom (fun q q' : Fin n => (FloatOps.cmpfTotal (F := Ideal) (φ := .f32) .gt
        (x (Shape.Idx.along (s := ⟨3, ![A, B, n]⟩) (ix3 a b c) 2 q)) (x (Shape.Idx.along (s := ⟨3, ![A, B, n]⟩) (ix3 a b c) 2 q')) == 1#1)) c
      = ord (fun q => x (ix3 a b q)) c := by
  rw [← sortedFrom_gt]
  refine congrArg (fun p => sortedFrom p c) (funext fun q => funext fun q' => ?_)
  rw [along_last, along_last]
  show (BitVec.ofBool (decide (x (ix3 a b q') < x (ix3 a b q))) == 1#1) = _
  cases decide (x (ix3 a b q') < x (ix3 a b q)) <;> rfl

/-- The greatest values along the last axis. -/
theorem topV (x : FVec Ideal ⟨3, ![A, B, n]⟩ .f32) (hs : Shape.Slices ⟨3, ![A, B, n]⟩ (fun _ => 0) ⟨3, ![A, B, k]⟩) (a : Fin A) (b : Fin B) (r : Fin k) (hk : k ≤ n) :
    (Host.topK ⟨3, ![A, B, k]⟩ 2 (FloatOps.cmpfTotal (F := Ideal) (φ := .f32) .gt) x hs).1 (ix3 a b r)
      = x (ix3 a b (ord (fun q => x (ix3 a b q)) (r.castLE hk))) := by
  unfold Host.topK
  dsimp only
  refine (extractStridedSlice_apply _ _ hs (ix3 a b r) (ix3 a b (r.castLE hk)) fun d => ?_).trans ?_
  · match d with
    | ⟨0, _⟩ => exact (Nat.zero_add _).symm
    | ⟨1, _⟩ => exact (Nat.zero_add _).symm
    | ⟨2, _⟩ => exact (Nat.zero_add _).symm
  · unfold Host.sort2
    rw [dif_pos (show 2 < 3 by decide)]
    refine (congrArg x (along_last a b (r.castLE hk) _)).trans ?_
    exact congrArg (fun q => x (ix3 a b q)) (order_eq x a b (r.castLE hk))

/-- Where the greatest values stand. -/
theorem topI (x : FVec Ideal ⟨3, ![A, B, n]⟩ .f32) (hs : Shape.Slices ⟨3, ![A, B, n]⟩ (fun _ => 0) ⟨3, ![A, B, k]⟩) (a : Fin A) (b : Fin B) (r : Fin k) (hk : k ≤ n) :
    (Host.topK ⟨3, ![A, B, k]⟩ 2 (FloatOps.cmpfTotal (F := Ideal) (φ := .f32) .gt) x hs).2 (ix3 a b r)
      = BitVec.ofNat 32 (ord (fun q => x (ix3 a b q)) (r.castLE hk)).val := by
  unfold Host.topK
  dsimp only
  refine (extractStridedSlice_apply _ _ hs (ix3 a b r) (ix3 a b (r.castLE hk)) fun d => ?_).trans ?_
  · match d with
    | ⟨0, _⟩ => exact (Nat.zero_add _).symm
    | ⟨1, _⟩ => exact (Nat.zero_add _).symm
    | ⟨2, _⟩ => exact (Nat.zero_add _).symm
  · unfold Host.sort2
    rw [dif_pos (show 2 < 3 by decide)]
    dsimp only
    rw [dif_pos (show 2 < 3 by decide)]
    show BitVec.ofNat 32 (Shape.Idx.along (s := ⟨3, ![A, B, n]⟩) (ix3 a b (r.castLE hk)) 2 _ 2).val = _
    refine (congrArg (fun i : Shape.Idx ⟨3, ![A, B, n]⟩ => BitVec.ofNat 32 (i 2).val) (along_last a b (r.castLE hk) _)).trans ?_
    exact congrArg (fun q : Fin n => BitVec.ofNat 32 q.val) (order_eq x a b (r.castLE hk))

end

/-- The lookup of one element per row of the last axis. -/
abbrev lastDims (A B N k : Nat)
    (wf : GatherDims.WF ⟨3, ![A, B, N]⟩ ⟨4, ![A, B, k, 1]⟩ ⟨3, ![A, B, k]⟩ [] [2] [0, 1] [2] [0, 1] 3 ![1, 1, 1]) :
    GatherDims ⟨3, ![A, B, N]⟩ ⟨4, ![A, B, k, 1]⟩ ⟨3, ![A, B, k]⟩ where
  offsetDims := []
  collapsedSliceDims := [2]
  operandBatchingDims := [0, 1]
  startIndicesBatchingDims := [0, 1]
  startIndexMap := [2]
  indexVectorDim := 3
  sliceSizes := ![1, 1, 1]
  wf := wf

/-- One element per row of the last axis, taken by a word inside that axis. -/
theorem gather_last {α : Type} {A B N k w : Nat}
    (wf : GatherDims.WF ⟨3, ![A, B, N]⟩ ⟨4, ![A, B, k, 1]⟩ ⟨3, ![A, B, k]⟩ [] [2] [0, 1] [2] [0, 1] 3 ![1, 1, 1])
    (x : (⟨3, ![A, B, N]⟩ : Shape).Idx → α) (idx : IVec ⟨4, ![A, B, k, 1]⟩ w) (a : Fin A) (b : Fin B) (r : Fin k) (q : Fin N)
    (hq : (idx (ix4 a b r 0)).toInt.toNat = q.val) :
    Host.gather (lastDims A B N k wf) x idx (ix3 a b r) = x (ix3 a b q) := by
  unfold Host.gather
  congr 1
  funext d
  refine Fin.ext ?_
  show (lastDims A B N k wf).start (ix3 a b r) idx d + (lastDims A B N k wf).batchCoord (ix3 a b r) d + (lastDims A B N k wf).offCoord (ix3 a b r) d = _
  match d with
  | ⟨0, _⟩ =>
    rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  | ⟨1, _⟩ =>
    rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  | ⟨2, _⟩ =>
    rw [GatherDims.batchCoord_eq_zero _ _ _ (fun h => by simp at h),
      GatherDims.offCoord_eq_zero _ _ _ (fun h => ((GatherDims.mem_sKept _ _).mp h).1 (by simp))]
    simp only [Nat.add_zero]
    unfold GatherDims.start
    rw [dif_pos (by simp)]
    have hsi : (lastDims A B N k wf).siIdx (ix3 a b r)
        ⟨List.idxOf (2 : Fin 3) [2], List.idxOf_lt_length_iff.2 (List.mem_singleton.mpr rfl)⟩ = ix4 a b r 0 := by
      funext b
      refine Fin.ext ?_
      match b with
      | ⟨0, _⟩ => rfl
      | ⟨1, _⟩ => rfl
      | ⟨2, _⟩ => rfl
      | ⟨3, _⟩ => rfl
    refine (congrArg (fun i => min (idx i).toInt.toNat (N - 1)) hsi).trans ?_
    have := q.isLt
    show min (idx (ix4 a b r 0)).toInt.toNat (N - 1) = q.val
    rw [hq]
    omega

end Cert.Proof.RouteTop

end
-- ==== Proof.RouteCol.lean ====
/- A round read at one column, on the extended reals: the value and the row number a round takes are the column's element of that rank. -/
module

public import proofs.«01_k».proof.Proof.RouteRounds
public import proofs.«01_k».proof.Proof.RouteSort
public import Idealize.ShloMosaic.Lib.Pointwise
public import Idealize.ShloMosaic.Lib.ValueLayout
public import Idealize.ShloMosaic.Lib.WordCmp
public import Idealize.ShloMosaic.Lib.SortNet.Extract
public import Idealize.ShloMosaic.PureOps.Ideal.Laws

@[expose] public section

noncomputable section

namespace Cert.Proof.RouteRounds

open Idealize.ShloMosaic hiding ix1 ix2 ix3
open Idealize.ShloMosaic.ValueIdx Idealize.SL.Sem Cert.RouteIdeal Cert.RouteIdeal.Gen Cert.Proof.RouteSort

/-- A fold that one of its elements absorbs is that element. -/
theorem fold_absorb {α : Type} {n : Nat} (op : α → α → α) [Std.Commutative op] [Std.Associative op] (b : α) (v : Fin n → α) (r0 : Fin n)
    (hb : op (v r0) b = v r0) (h : ∀ r, r ≠ r0 → op (v r0) (v r) = v r0) : Finset.univ.fold op b v = v r0 := by
  classical
  have key : ∀ s : Finset (Fin n), r0 ∉ s → op (v r0) (s.fold op b v) = v r0 := by
    intro s
    induction s using Finset.induction with
    | empty => intro _; exact hb
    | insert a s ha ih =>
      intro hr
      rw [Finset.mem_insert, not_or] at hr
      rw [Finset.fold_insert ha, ← Std.Associative.assoc (op := op), h a (fun e => hr.1 e.symm), ih hr.2]
  rw [← Finset.insert_erase (Finset.mem_univ r0), Finset.fold_insert (Finset.notMem_erase r0 _)]
  exact key _ (Finset.notMem_erase r0 _)

section
variable {n : Nat}

/-- Column `j` of a block. -/
def col {α : Type} (s : (Blk n).Idx → α) (j : Fin 256) (r : Fin n) : α := s (ix2 r j)

theorem negInf : (FloatOps.ofBits .f32 0xFF800000#32 : Ideal .f32) = (⊥ : EReal) := by
  show Ideal.ofBits .f32 0xFF800000#32 = ⊥
  simp [Ideal.ofBits, Ideal.ieee]

theorem redI_apply (kind : IKind) (src : IVec (Blk n) 32) (acc : BitVec 32) (hacc : acc = kind.neutral) (j : Fin 256) :
    multiReductionI kind [0] S256 src acc (red n) hacc (ix1 j) = Finset.univ.fold kind.op acc fun r : Fin n => src (ix2 r j) := by
  rw [multiReductionI_eq_fold, Shape.Reduces.fold_fiber_r2_a0]
  rfl

theorem redM_apply (src : FVec Ideal (Blk n) .f32) (acc : BitVec 32) (hφ : FKind.Formats .f32) (hacc : acc = FKind.maximumf.neutral .f32 hφ) (j : Fin 256) :
    multiReduction .maximumf [0] S256 src acc (red n) hφ hacc (ix1 j)
      = Finset.univ.fold max (FloatOps.ofBits .f32 acc : Ideal .f32) fun r : Fin n => src (ix2 r j) := by
  rw [multiReduction_maximumf_eq_fold, Shape.Reduces.fold_fiber_r2_a0]
  rfl

theorem rMax_apply (s : FVec Ideal (Blk n) .f32) (u : Fin 1) (j : Fin 256) :
    rMax s (ix2 u j) = Finset.univ.fold max (⊥ : EReal) (col s j) := by
  unfold rMax
  rw [shapeCast_a_1a_apply]
  exact (redM_apply s _ _ rfl j).trans (congrArg (fun b => Finset.univ.fold max b (col s j)) negInf)

theorem rIdx_apply (p : IVec (Blk n) 32) (K : BitVec 32) (s : FVec Ideal (Blk n) .f32) (u : Fin 1) (j : Fin 256) :
    rIdx p K s (ix2 u j) = Finset.univ.fold IntOp.minsi 2147483647#32 fun r =>
      if s (ix2 r j) = rMax s (ix2 0 j) then p (ix2 r j) else K := by
  unfold rIdx
  rw [shapeCast_a_1a_apply]
  refine (redI_apply _ _ _ rfl j).trans (Finset.fold_congr fun r _ => ?_)
  show Scalar.select (BitVec.ofBool (decide (s (ix2 r j) = broadcastTo (Blk n) (rMax s) (bc n) (ix2 r j)))) (p (ix2 r j)) K = _
  rw [broadcastTo_1b_ab_apply, WordCmp.select_ofBool]
  simp only [decide_eq_true_eq]

theorem rHit_apply (p : IVec (Blk n) 32) (K : BitVec 32) (s : FVec Ideal (Blk n) .f32) (r : Fin n) (j : Fin 256) :
    rHit p K s (ix2 r j) = BitVec.ofBool (p (ix2 r j) == rIdx p K s (ix2 0 j)) := by
  unfold rHit
  show BitVec.ofBool (p (ix2 r j) == broadcastTo (Blk n) (rIdx p K s) (bc n) (ix2 r j)) = _
  rw [broadcastTo_1b_ab_apply]

theorem rNext_apply (p : IVec (Blk n) 32) (K : BitVec 32) (s : FVec Ideal (Blk n) .f32) (r : Fin n) (j : Fin 256) :
    rNext p K s (ix2 r j) = if p (ix2 r j) = rIdx p K s (ix2 0 j) then (⊥ : EReal) else s (ix2 r j) := by
  unfold rNext
  show Scalar.select (rHit p K s (ix2 r j)) (FloatOps.ofBits .f32 0xFF800000#32 : Ideal .f32) (s (ix2 r j)) = _
  rw [rHit_apply, WordCmp.select_ofBool, negInf]
  simp only [beq_iff_eq]

theorem rSum_apply (p : IVec (Blk n) 32) (K : BitVec 32) (ci : IVec (Blk n) 32) (s : FVec Ideal (Blk n) .f32) (u : Fin 1) (j : Fin 256) :
    rSum p K ci s (ix2 u j) = Finset.univ.fold IntOp.addi 0#32 fun r =>
      if p (ix2 r j) = rIdx p K s (ix2 0 j) then ci (ix2 r j) else 0#32 := by
  unfold rSum
  rw [shapeCast_a_1a_apply]
  refine (redI_apply _ _ _ rfl j).trans (Finset.fold_congr fun r _ => ?_)
  show Scalar.select (rHit p K s (ix2 r j)) (ci (ix2 r j)) 0#32 = _
  rw [rHit_apply, WordCmp.select_ofBool]
  simp only [beq_iff_eq]

/-- Row names in increasing order, all below the sentinel. -/
structure Names (p : IVec (Blk n) 32) (P : Fin n → Nat) (K : Nat) : Prop where
  at_ : ∀ r j, p (ix2 r j) = BitVec.ofNat 32 (P r)
  mono : StrictMono P
  lt : ∀ r, P r < K
  le : K < 2 ^ 31

variable {p : IVec (Blk n) 32} {P : Fin n → Nat} {K : Nat}

theorem Names.inj (hN : Names p P K) {a b : Fin n} (h : BitVec.ofNat 32 (P a) = BitVec.ofNat 32 (P b)) : a = b := by
  have ha := hN.lt a; have hb := hN.lt b; have hK := hN.le
  have := congrArg BitVec.toNat h
  rw [BitVec.toNat_ofNat, BitVec.toNat_ofNat, Nat.mod_eq_of_lt (by omega), Nat.mod_eq_of_lt (by omega)] at this
  exact hN.mono.injective this

theorem minsi_le {a b : Nat} (ha : a < 2 ^ 31) (hb : b < 2 ^ 31) (h : a ≤ b) :
    IntOp.minsi (BitVec.ofNat 32 a) (BitVec.ofNat 32 b) = BitVec.ofNat 32 a := by
  apply BitVec.eq_of_toInt_eq
  rw [SortNet.toInt_minsi, BitVec.toInt_eq_toNat_of_lt, BitVec.toInt_eq_toNat_of_lt, BitVec.toNat_ofNat, BitVec.toNat_ofNat,
    Nat.mod_eq_of_lt (by omega), Nat.mod_eq_of_lt (by omega)]
  · omega
  · rw [BitVec.toNat_ofNat, Nat.mod_eq_of_lt (by omega)]; omega
  · rw [BitVec.toNat_ofNat, Nat.mod_eq_of_lt (by omega)]; omega

/-- `r0` holds the greatest element of the column, and no row above it does. -/
def Best (g : Fin n → EReal) (r0 : Fin n) : Prop := ∀ r, r ≠ r0 → g r < g r0 ∨ (g r = g r0 ∧ r0 < r)

theorem rMax_best (s : FVec Ideal (Blk n) .f32) (u : Fin 1) (j : Fin 256) (r0 : Fin n) (hb : Best (col s j) r0) : rMax s (ix2 u j) = col s j r0 := by
  rw [rMax_apply]
  refine fold_absorb max ⊥ (col s j) r0 (max_bot_right _) fun r hr => max_eq_left ?_
  rcases hb r hr with h | h
  · exact h.le
  · exact h.1.le

theorem rIdx_best (hN : Names p P K) (s : FVec Ideal (Blk n) .f32) (u : Fin 1) (j : Fin 256) (r0 : Fin n) (hb : Best (col s j) r0) :
    rIdx p (BitVec.ofNat 32 K) s (ix2 u j) = BitVec.ofNat 32 (P r0) := by
  have hK := hN.le
  have h0 := hN.lt r0
  rw [rIdx_apply]
  have em : rMax s (ix2 0 j) = s (ix2 r0 j) := rMax_best s 0 j r0 hb
  have e0 : (if s (ix2 r0 j) = rMax s (ix2 0 j) then p (ix2 r0 j) else BitVec.ofNat 32 K) = BitVec.ofNat 32 (P r0) := by
    rw [em, if_pos rfl, hN.at_]
  refine (fold_absorb IntOp.minsi _ _ r0 ?_ fun r hr => ?_).trans e0
  · rw [e0]; exact minsi_le (by omega) (by decide) (by omega)
  · rw [e0]
    show IntOp.minsi _ (if s (ix2 r j) = rMax s (ix2 0 j) then p (ix2 r j) else BitVec.ofNat 32 K) = _
    split
    · rename_i he
      rw [em] at he
      have hr' := hN.lt r
      rw [hN.at_]
      refine minsi_le (by omega) (by omega) (hN.mono.monotone ?_)
      rcases hb r hr with h | h
      · exact absurd he (ne_of_lt h)
      · exact h.2.le
    · exact minsi_le (by omega) (by omega) (by omega)

theorem rNext_best (hN : Names p P K) (s : FVec Ideal (Blk n) .f32) (j : Fin 256) (r0 : Fin n) (hb : Best (col s j) r0) (r : Fin n) :
    col (rNext p (BitVec.ofNat 32 K) s) j r = if r = r0 then (⊥ : EReal) else col s j r := by
  unfold col
  rw [rNext_apply, rIdx_best hN s 0 j r0 hb, hN.at_]
  by_cases h : r = r0
  · subst h; rw [if_pos rfl, if_pos rfl]
  · rw [if_neg h, if_neg fun e => h (hN.inj e)]

theorem rSum_best (hN : Names p P K) (ci : IVec (Blk n) 32) (s : FVec Ideal (Blk n) .f32) (u : Fin 1) (j : Fin 256) (r0 : Fin n) (hb : Best (col s j) r0) :
    rSum p (BitVec.ofNat 32 K) ci s (ix2 u j) = ci (ix2 r0 j) := by
  rw [rSum_apply]
  have e0 : (if p (ix2 r0 j) = rIdx p (BitVec.ofNat 32 K) s (ix2 0 j) then ci (ix2 r0 j) else 0#32) = ci (ix2 r0 j) := by
    rw [rIdx_best hN s 0 j r0 hb, hN.at_, if_pos rfl]
  refine (fold_absorb IntOp.addi _ _ r0 ?_ fun r hr => ?_).trans e0
  · rw [e0]; show ci (ix2 r0 j) + 0#32 = _; exact BitVec.add_zero _
  · rw [e0]
    show ci (ix2 r0 j) + (if p (ix2 r j) = rIdx p (BitVec.ofNat 32 K) s (ix2 0 j) then ci (ix2 r j) else 0#32) = _
    rw [rIdx_best hN s 0 j r0 hb, hN.at_, if_neg fun e => hr (hN.inj e)]
    exact BitVec.add_zero _

/-- Column by column the rounds strike out the sorted order's first positions. -/
theorem st_col (hN : Names p P K) (s : FVec Ideal (Blk n) .f32) (j : Fin 256) (hf : ∀ x, col s j x ≠ ⊥) :
    ∀ r, r ≤ n → col (st p (BitVec.ofNat 32 K) s r) j = after (col s j) r
  | 0, _ => (after_zero _).symm
  | r + 1, hr => by
    have ih := st_col hN s j hf r (by omega)
    funext x
    show col (rNext p (BitVec.ofNat 32 K) (st p (BitVec.ofNat 32 K) s r)) j x = _
    rw [rNext_best hN _ j (ord (col s j) ⟨r, hr⟩) (by rw [ih]; exact best _ hf r hr), after_succ _ r hr, ih]

theorem st_best (hN : Names p P K) (s : FVec Ideal (Blk n) .f32) (j : Fin 256) (hf : ∀ x, col s j x ≠ ⊥) (r : Nat) (hr : r < n) :
    Best (col (st p (BitVec.ofNat 32 K) s r) j) (ord (col s j) ⟨r, hr⟩) := by
  rw [st_col hN s j hf r hr.le]
  exact best _ hf r hr

theorem max_st (hN : Names p P K) (s : FVec Ideal (Blk n) .f32) (j : Fin 256) (hf : ∀ x, col s j x ≠ ⊥) (u : Fin 1) (r : Nat) (hr : r < n) :
    rMax (st p (BitVec.ofNat 32 K) s r) (ix2 u j) = col s j (ord (col s j) ⟨r, hr⟩) := by
  rw [rMax_best _ u j _ (st_best hN s j hf r hr), st_col hN s j hf r hr.le]
  exact after_ord _ ⟨r, hr⟩ le_rfl

theorem idx_st (hN : Names p P K) (s : FVec Ideal (Blk n) .f32) (j : Fin 256) (hf : ∀ x, col s j x ≠ ⊥) (u : Fin 1) (r : Nat) (hr : r < n) :
    rIdx p (BitVec.ofNat 32 K) (st p (BitVec.ofNat 32 K) s r) (ix2 u j) = BitVec.ofNat 32 (P (ord (col s j) ⟨r, hr⟩)) :=
  rIdx_best hN _ u j _ (st_best hN s j hf r hr)

theorem sum_st (hN : Names p P K) (ci : IVec (Blk n) 32) (s : FVec Ideal (Blk n) .f32) (j : Fin 256) (hf : ∀ x, col s j x ≠ ⊥) (u : Fin 1) (r : Nat) (hr : r < n) :
    rSum p (BitVec.ofNat 32 K) ci (st p (BitVec.ofNat 32 K) s r) (ix2 u j) = ci (ix2 (ord (col s j) ⟨r, hr⟩) j) :=
  rSum_best hN ci _ u j _ (st_best hN s j hf r hr)

end

/-- The row numbers name the rows. -/
theorem rowNo_names : Names rowNo (fun r : Fin 128 => r.val) 128 where
  at_ r j := iota_single_apply .tc S128x256 32 0 iota_S128x256_d0_w32 (ix2 r j)
  mono := fun _ _ h => h
  lt r := r.isLt
  le := by decide

theorem kV_apply (s : FVec Ideal (Blk 128) .f32) (j : Fin 256) (hf : ∀ x, col s j x ≠ ⊥) (u : Fin 1) (r : Nat) (hr : r < 128) :
    kV s r (ix2 u j) = col s j (ord (col s j) ⟨r, hr⟩) := max_st rowNo_names s j hf u r hr

theorem kI_apply (s : FVec Ideal (Blk 128) .f32) (j : Fin 256) (hf : ∀ x, col s j x ≠ ⊥) (u : Fin 1) (r : Nat) (hr : r < 128) :
    kI s r (ix2 u j) = BitVec.ofNat 32 (ord (col s j) ⟨r, hr⟩).val := idx_st rowNo_names s j hf u r hr

end Cert.Proof.RouteRounds

end
-- ==== Proof.RouteCand.lean ====
/- A head read at one column: the 136 pair sums the kernel keeps hold the sixteen greatest of all 256, so its picks are those of the full table. -/
module

public import proofs.«01_k».proof.Proof.RouteCol

@[expose] public section

noncomputable section

namespace Cert.Proof.RouteRounds

open Idealize.ShloMosaic hiding ix1 ix2 ix3
open Idealize.ShloMosaic.ValueIdx Idealize.SL.Sem Cert.RouteIdeal Cert.RouteIdeal.Gen Cert.Proof.RouteSort

section
variable {α : Type}

/-- Sixteen rows put below each other, read at a row. -/
theorem cat16 (g : Nat → S1x256.Idx → α) (h) (b : Fin 16) (j : Fin 256) :
    concatenate S16x256 0 [⟨S1x256, g 0⟩, ⟨S1x256, g 1⟩, ⟨S1x256, g 2⟩, ⟨S1x256, g 3⟩, ⟨S1x256, g 4⟩, ⟨S1x256, g 5⟩, ⟨S1x256, g 6⟩, ⟨S1x256, g 7⟩,
      ⟨S1x256, g 8⟩, ⟨S1x256, g 9⟩, ⟨S1x256, g 10⟩, ⟨S1x256, g 11⟩, ⟨S1x256, g 12⟩, ⟨S1x256, g 13⟩, ⟨S1x256, g 14⟩, ⟨S1x256, g 15⟩] h (ix2 b j)
      = g b.val (ix2 0 j) :=
  concatenate_ofFn_unit_apply (t := S16x256) (s₁ := S1x256) 0 (fun i : Fin 16 => g i.val) h rfl rfl (ix2 b j) b rfl (ix2 0 j) fun a ha => by
    match a with
    | ⟨0, _⟩ => exact absurd rfl ha
    | ⟨1, _⟩ => rfl

theorem cat8 (g : Nat → S1x256.Idx → α) (h) (b : Fin 8) (j : Fin 256) :
    concatenate S8x256 0 [⟨S1x256, g 0⟩, ⟨S1x256, g 1⟩, ⟨S1x256, g 2⟩, ⟨S1x256, g 3⟩, ⟨S1x256, g 4⟩, ⟨S1x256, g 5⟩, ⟨S1x256, g 6⟩, ⟨S1x256, g 7⟩] h (ix2 b j)
      = g b.val (ix2 0 j) :=
  concatenate_ofFn_unit_apply (t := S8x256) (s₁ := S1x256) 0 (fun i : Fin 8 => g i.val) h rfl rfl (ix2 b j) b rfl (ix2 0 j) fun a ha => by
    match a with
    | ⟨0, _⟩ => exact absurd rfl ha
    | ⟨1, _⟩ => rfl

/-- The group a kept row belongs to, and its place in the group. -/
def gA (m : Fin 136) : Nat := if m.val < 16 then 0 else m.val / 8 - 1
def gB (m : Fin 136) : Nat := if m.val < 16 then m.val else m.val % 8

theorem piece8 (xs : List ((s : Shape) × (s.Idx → α))) (h : Shape.Concatenates (xs.map (·.1)) S136x256 0) (m : Fin 136) (j : Fin 256)
    (k : Nat) (hk : k < xs.length) (x : S8x256.Idx → α) (hx : xs[k] = ⟨S8x256, x⟩)
    (hpre : (((xs.take k).map (·.1)).map fun s : Shape => if h : s.rank = S136x256.rank then s.size ((0 : Fin S136x256.rank).cast h.symm) else 0).sum = 8 + 8 * k)
    (hv : 8 + 8 * k + m.val % 8 = m.val) :
    concatenate S136x256 0 xs h (ix2 m j) = x (ix2 ⟨m.val % 8, Nat.mod_lt _ (by decide)⟩ j) :=
  concatenate_apply_piece (t := S136x256) 0 xs h (ix2 m j) k hk S8x256 x hx rfl (8 + 8 * k) hpre (ix2 ⟨m.val % 8, Nat.mod_lt _ (by decide)⟩ j) (fun a ha => by
    match a with
    | ⟨0, _⟩ => exact absurd rfl ha
    | ⟨1, _⟩ => rfl) hv

set_option maxHeartbeats 2000000 in
/-- A group of sixteen rows over fifteen groups of eight, read at a row. -/
theorem cat136 (x : S16x256.Idx → α) (g : Nat → S8x256.Idx → α) (h) (m : Fin 136) (j : Fin 256) :
    concatenate S136x256 0 [⟨S16x256, x⟩, ⟨S8x256, g 1⟩, ⟨S8x256, g 2⟩, ⟨S8x256, g 3⟩, ⟨S8x256, g 4⟩, ⟨S8x256, g 5⟩, ⟨S8x256, g 6⟩, ⟨S8x256, g 7⟩,
      ⟨S8x256, g 8⟩, ⟨S8x256, g 9⟩, ⟨S8x256, g 10⟩, ⟨S8x256, g 11⟩, ⟨S8x256, g 12⟩, ⟨S8x256, g 13⟩, ⟨S8x256, g 14⟩, ⟨S8x256, g 15⟩] h (ix2 m j)
      = if hm : m.val < 16 then x (ix2 ⟨m.val, hm⟩ j) else g (m.val / 8 - 1) (ix2 ⟨m.val % 8, Nat.mod_lt _ (by decide)⟩ j) := by
  by_cases hm : m.val < 16
  · rw [dif_pos hm]
    refine concatenate_apply_piece (t := S136x256) 0 _ h (ix2 m j) 0 (by show 0 < 16; decide) S16x256 x rfl rfl 0 rfl (ix2 ⟨m.val, hm⟩ j) (fun a ha => ?_) (Nat.zero_add _)
    match a with
    | ⟨0, _⟩ => exact absurd rfl ha
    | ⟨1, _⟩ => rfl
  · rw [dif_neg hm]
    obtain ⟨q, hq⟩ : ∃ q, m.val / 8 - 1 = q := ⟨_, rfl⟩
    have hq1 : 1 ≤ q := by omega
    have hq2 : q ≤ 15 := by have := m.isLt; omega
    have hv : 8 + 8 * q + m.val % 8 = m.val := by omega
    rw [hq]
    interval_cases q
    · exact piece8 _ h m j 1 (by show 1 < 16; decide) _ rfl rfl hv
    · exact piece8 _ h m j 2 (by show 2 < 16; decide) _ rfl rfl hv
    · exact piece8 _ h m j 3 (by show 3 < 16; decide) _ rfl rfl hv
    · exact piece8 _ h m j 4 (by show 4 < 16; decide) _ rfl rfl hv
    · exact piece8 _ h m j 5 (by show 5 < 16; decide) _ rfl rfl hv
    · exact piece8 _ h m j 6 (by show 6 < 16; decide) _ rfl rfl hv
    · exact piece8 _ h m j 7 (by show 7 < 16; decide) _ rfl rfl hv
    · exact piece8 _ h m j 8 (by show 8 < 16; decide) _ rfl rfl hv
    · exact piece8 _ h m j 9 (by show 9 < 16; decide) _ rfl rfl hv
    · exact piece8 _ h m j 10 (by show 10 < 16; decide) _ rfl rfl hv
    · exact piece8 _ h m j 11 (by show 11 < 16; decide) _ rfl rfl hv
    · exact piece8 _ h m j 12 (by show 12 < 16; decide) _ rfl rfl hv
    · exact piece8 _ h m j 13 (by show 13 < 16; decide) _ rfl rfl hv
    · exact piece8 _ h m j 14 (by show 14 < 16; decide) _ rfl rfl hv
    · exact piece8 _ h m j 15 (by show 15 < 16; decide) _ rfl rfl hv

end

/-- The kept rows' names, among the 256 pairs. -/
def pN (m : Fin 136) : Nat := 16 * gA m + gB m

theorem gB_lt (m : Fin 136) : gB m < 16 := by unfold gB; split <;> omega
theorem gA_lt (m : Fin 136) : gA m < 16 := by have := m.isLt; unfold gA; split <;> omega
theorem pN_lt (m : Fin 136) : pN m < 256 := by have := gA_lt m; have := gB_lt m; unfold pN; omega
theorem pN_mono : StrictMono pN := by
  intro a b h
  have h' : a.val < b.val := h
  unfold pN gA gB
  split <;> split <;> omega

/-- The pair a kept row stands for. -/
def em (m : Fin 136) : Fin 256 := ⟨pN m, pN_lt m⟩

theorem em_mono : StrictMono em := fun _ _ h => pN_mono h

theorem em_div (m : Fin 136) : (em m).val / 16 = gA m := by
  have := gB_lt m
  show (16 * gA m + gB m) / 16 = _
  omega
theorem em_mod (m : Fin 136) : (em m).val % 16 = gB m := by
  have := gB_lt m
  show (16 * gA m + gB m) % 16 = _
  omega

/-- A pair no kept row stands for has a first rank of at least one and a second of at least eight. -/
theorem em_out (p : Fin 256) (h : ∀ x, em x ≠ p) : 1 ≤ p.val / 16 ∧ 8 ≤ p.val % 16 := by
  have hp := p.isLt
  refine ⟨?_, ?_⟩
  · by_contra hc
    refine h ⟨p.val, by omega⟩ (Fin.ext ?_)
    show pN _ = p.val
    unfold pN gA gB
    split <;> rename_i hh <;> simp only at hh ⊢ <;> omega
  · by_contra hc
    by_cases h0 : p.val / 16 = 0
    · refine h ⟨p.val, by omega⟩ (Fin.ext ?_)
      show pN _ = p.val
      unfold pN gA gB
      split <;> rename_i hh <;> simp only at hh ⊢ <;> omega
    · refine h ⟨8 + 8 * (p.val / 16) + p.val % 16, by omega⟩ (Fin.ext ?_)
      show pN _ = p.val
      unfold pN gA gB
      split <;> rename_i hh <;> simp only at hh ⊢ <;> omega

/-- The first and the second group's first eight rows, sixteen in all. -/
def wit (i : Fin 16) : Fin 136 := ⟨if i.val < 8 then i.val else i.val + 8, by have := i.isLt; split <;> omega⟩

theorem wit_injective : Function.Injective wit := by
  intro i i' h
  have h' : (if i.val < 8 then i.val else i.val + 8) = if i'.val < 8 then i'.val else i'.val + 8 := congrArg Fin.val h
  refine Fin.ext ?_
  split at h' <;> split at h' <;> omega

theorem wit_place (i : Fin 16) : gA (wit i) ≤ 1 ∧ gB (wit i) ≤ 7 := by
  revert i
  decide +kernel

theorem pos_names : Names pos pN 256 where
  at_ m j := by
    refine (cat136 pos0 pos8 _ m j).trans ?_
    split
    · rename_i hm
      show 0#32 + iota .tc S16x256 32 [0] iota_S16x256_d0_w32 (ix2 ⟨m.val, hm⟩ j) = _
      rw [iota_single_apply]
      show 0#32 + BitVec.ofNat 32 m.val = _
      rw [BitVec.zero_add]
      unfold pN gA gB
      rw [if_pos hm, if_pos hm]
      exact congrArg (BitVec.ofNat 32) (by omega)
    · rename_i hm
      show BitVec.ofNat 32 (16 * (m.val / 8 - 1)) + iota .tc S8x256 32 [0] iota_S8x256_d0_w32 (ix2 ⟨m.val % 8, _⟩ j) = _
      rw [iota_single_apply]
      show BitVec.ofNat 32 (16 * (m.val / 8 - 1)) + BitVec.ofNat 32 (m.val % 8) = _
      unfold pN gA gB
      rw [if_neg hm, if_neg hm, ← BitVec.ofNat_add]
  mono := pN_mono
  lt := pN_lt
  le := by decide

/-! ### What a head's columns hold, from two columns of scores -/

section
variable (f1 f2 : Fin 128 → EReal)

/-- The score of a pair: the first scores' element of one rank and the second scores' element of the other. -/
def pairV (p : Fin 256) : EReal :=
  f1 (ord f1 ⟨p.val / 16, by have := p.isLt; omega⟩) + f2 (ord f2 ⟨p.val % 16, by omega⟩)

/-- The number of a pair. -/
def pairE (p : Fin 256) : BitVec 32 :=
  BitVec.ofNat 32 (ord f1 ⟨p.val / 16, by have := p.isLt; omega⟩).val * 128#32 + BitVec.ofNat 32 (ord f2 ⟨p.val % 16, by omega⟩).val

/-- The pair of rank `r`. -/
def pick (r : Fin 16) : Fin 256 := ord (pairV f1 f2) ⟨r.val, by have := r.isLt; omega⟩

/-- Sorted values descend. -/
theorem ord_le {n : Nat} (f : Fin n → EReal) (i j : Fin n) (h : i.val ≤ j.val) : f (ord f j) ≤ f (ord f i) := by
  rcases Nat.lt_or_eq_of_le h with h | h
  · rcases (bef_iff f _ _).1 (bef_ord f (show i < j from h)) with e | e
    · exact e.le
    · exact e.1.symm.le
  · rw [Fin.ext h]

/-- The sixteen greatest pairs are among the kept ones. -/
theorem ord_kept (r : Fin 16) :
    pick f1 f2 r = em (ord (fun x => pairV f1 f2 (em x)) ⟨r.val, by have := r.isLt; omega⟩) := by
  refine ord_of_part (pairV f1 f2) em em_mono (k := 16) (by decide) (by decide) (fun p hp => ?_) r
  obtain ⟨ha, hb⟩ := em_out p hp
  refine ⟨wit, wit_injective, fun i => ?_⟩
  obtain ⟨hA, hB⟩ := wit_place i
  generalize wit i = w at hA hB ⊢
  have hle : pairV f1 f2 p ≤ pairV f1 f2 (em w) := by
    unfold pairV
    refine add_le_add (ord_le f1 _ _ ?_) (ord_le f2 _ _ ?_)
    · show (em w).val / 16 ≤ p.val / 16
      rw [em_div]; omega
    · show (em w).val % 16 ≤ p.val % 16
      rw [em_mod]; omega
  rw [bef_iff]
  rcases lt_or_eq_of_le hle with h | h
  · exact Or.inl h
  · refine Or.inr ⟨h.symm, ?_⟩
    have hd := em_div w
    have hm := em_mod w
    show (em w).val < p.val
    omega

end

section
variable (s1 s2 : FVec Ideal (Blk 128) .f32) (j : Fin 256)
  (h1 : ∀ x, col s1 j x ≠ ⊥) (h2 : ∀ x, col s2 j x ≠ ⊥)
include h1 h2

theorem cand_col (m : Fin 136) : col (cand s1 s2) j m = pairV (col s1 j) (col s2 j) (em m) := by
  show cand s1 s2 (ix2 m j) = _
  refine (cat136 (cand0 s1 s2) (cand8 s1 s2) _ m j).trans ?_
  have e : pairV (col s1 j) (col s2 j) (em m) = col s1 j (ord (col s1 j) ⟨gA m, by have := gA_lt m; omega⟩) + col s2 j (ord (col s2 j) ⟨gB m, by have := gB_lt m; omega⟩) := by
    unfold pairV
    simp only [em_div, em_mod]
  rw [e]
  split
  · rename_i hm
    show broadcastTo S16x256 (kV s1 0) broadcasts_S1x256_S16x256 (ix2 ⟨m.val, hm⟩ j) + v16 s2 (ix2 ⟨m.val, hm⟩ j) = _
    rw [broadcastTo_1b_ab_apply, kV_apply s1 j h1 0 0 (by decide)]
    refine congrArg₂ (· + ·) ?_ ((cat16 (kV s2) _ ⟨m.val, hm⟩ j).trans ((kV_apply s2 j h2 0 m.val (by omega)).trans ?_))
    · simp only [gA, if_pos hm]
    · simp only [gB, if_pos hm]
  · rename_i hm
    have hlt := m.isLt
    show broadcastTo S8x256 (kV s1 (m.val / 8 - 1)) broadcasts_S1x256_S8x256 (ix2 ⟨m.val % 8, _⟩ j) + v8 s2 (ix2 ⟨m.val % 8, _⟩ j) = _
    rw [broadcastTo_1b_ab_apply, kV_apply s1 j h1 0 (m.val / 8 - 1) (by omega)]
    refine congrArg₂ (· + ·) ?_ ((cat8 (kV s2) _ ⟨m.val % 8, _⟩ j).trans ((kV_apply s2 j h2 0 (m.val % 8) (by omega)).trans ?_))
    · simp only [gA, if_neg hm]
    · simp only [gB, if_neg hm]

theorem candI_col (m : Fin 136) : candI s1 s2 (ix2 m j) = pairE (col s1 j) (col s2 j) (em m) := by
  refine (cat136 (candI0 s1 s2) (candI8 s1 s2) _ m j).trans ?_
  have e : pairE (col s1 j) (col s2 j) (em m) = BitVec.ofNat 32 (ord (col s1 j) ⟨gA m, by have := gA_lt m; omega⟩).val * 128#32
      + BitVec.ofNat 32 (ord (col s2 j) ⟨gB m, by have := gB_lt m; omega⟩).val := by
    unfold pairE
    simp only [em_div, em_mod]
  rw [e]
  split
  · rename_i hm
    show broadcastTo S16x256 (muli (kI s1 0) (broadcast S1x256 128#32)) broadcasts_S1x256_S16x256 (ix2 ⟨m.val, hm⟩ j) + i16 s2 (ix2 ⟨m.val, hm⟩ j) = _
    rw [broadcastTo_1b_ab_apply]
    show kI s1 0 (ix2 0 j) * 128#32 + _ = _
    rw [kI_apply s1 j h1 0 0 (by decide)]
    refine congrArg₂ (· + ·) ?_ ((cat16 (kI s2) _ ⟨m.val, hm⟩ j).trans ((kI_apply s2 j h2 0 m.val (by omega)).trans ?_))
    · simp only [gA, if_pos hm]
    · simp only [gB, if_pos hm]
  · rename_i hm
    have hlt := m.isLt
    show broadcastTo S8x256 (muli (kI s1 (m.val / 8 - 1)) (broadcast S1x256 128#32)) broadcasts_S1x256_S8x256 (ix2 ⟨m.val % 8, _⟩ j) + i8 s2 (ix2 ⟨m.val % 8, _⟩ j) = _
    rw [broadcastTo_1b_ab_apply]
    show kI s1 (m.val / 8 - 1) (ix2 0 j) * 128#32 + _ = _
    rw [kI_apply s1 j h1 0 (m.val / 8 - 1) (by omega)]
    refine congrArg₂ (· + ·) ?_ ((cat8 (kI s2) _ ⟨m.val % 8, _⟩ j).trans ((kI_apply s2 j h2 0 (m.val % 8) (by omega)).trans ?_))
    · simp only [gA, if_neg hm]
    · simp only [gB, if_neg hm]

variable (h3 : ∀ p, pairV (col s1 j) (col s2 j) p ≠ ⊥)
include h3

theorem cand_ne (x : Fin 136) : col (cand s1 s2) j x ≠ ⊥ := by
  rw [cand_col s1 s2 j h1 h2]; exact h3 _

theorem cand_ord (r : Fin 16) : em (ord (col (cand s1 s2) j) ⟨r.val, by have := r.isLt; omega⟩) = pick (col s1 j) (col s2 j) r := by
  rw [ord_kept, show col (cand s1 s2) j = fun x => pairV (col s1 j) (col s2 j) (em x) from funext (cand_col s1 s2 j h1 h2)]

/-- The experts of a head. -/
theorem headE_apply (r : Fin 16) : headE s1 s2 (ix2 r j) = pairE (col s1 j) (col s2 j) (pick (col s1 j) (col s2 j) r) := by
  refine (cat16 (cE s1 s2) _ r j).trans ?_
  refine (sum_st pos_names (candI s1 s2) (cand s1 s2) j (cand_ne s1 s2 j h1 h2 h3) 0 r.val (by have := r.isLt; omega)).trans ?_
  rw [candI_col s1 s2 j h1 h2, cand_ord s1 s2 j h1 h2 h3 r]

theorem top_apply (r : Fin 16) : top s1 s2 (ix2 r j) = pairV (col s1 j) (col s2 j) (pick (col s1 j) (col s2 j) r) := by
  refine (cat16 (cV s1 s2) _ r j).trans ?_
  refine (max_st pos_names (cand s1 s2) j (cand_ne s1 s2 j h1 h2 h3) 0 r.val (by have := r.isLt; omega)).trans ?_
  rw [cand_col s1 s2 j h1 h2, cand_ord s1 s2 j h1 h2 h3 r]

end

/-- The weights of sixteen values, the first of which is the greatest. -/
def soft (t : Fin 16 → EReal) (r : Fin 16) : EReal := Ideal.div (Ideal.exp (t r - t 0)) (∑ k : Fin 16, Ideal.exp (t k - t 0))

theorem prob_apply (T : FVec Ideal S16x256 .f32) (r : Fin 16) (j : Fin 256) : prob T (ix2 r j) = Ideal.exp (T (ix2 r j) - T (ix2 0 j)) := by
  unfold prob
  show Ideal.exp (T (ix2 r j) - broadcastTo S16x256 _ broadcasts_S1x256_S16x256 (ix2 r j)) = _
  rw [broadcastTo_1b_ab_apply]
  rw [extractStridedSlice_apply (s := S16x256) (t := S1x256) ![0, 0] T slices_S16x256_o0_0_S1x256 (ix2 0 j) (ix2 0 j) fun a => by
    match a with
    | ⟨0, _⟩ => rfl
    | ⟨1, _⟩ => exact (Nat.zero_add _).symm]

theorem sumRows_apply (src : FVec Ideal S16x256 .f32) (acc : BitVec 32) (hφ : FKind.Formats .f32) (hacc : acc = FKind.add.neutral .f32 hφ) (j : Fin 256) :
    multiReduction .add [0] S256 src acc reduces_S16x256_S256 hφ hacc (ix1 j)
      = ∑ r : Fin 16, src (ix2 r j) := by
  refine (Ideal.multiReduction_add_single src acc reduces_S16x256_S256 hφ hacc (ix1 j)).trans ?_
  refine Finset.sum_congr rfl fun r _ => congrArg src (funext fun a => Fin.ext ?_)
  match a with
  | ⟨0, _⟩ => rfl
  | ⟨1, _⟩ => rfl

theorem headG_apply (s1 s2 : FVec Ideal (Blk 128) .f32) (j : Fin 256) (t : Fin 16 → EReal) (ht : ∀ r, top s1 s2 (ix2 r j) = t r) (r : Fin 16) :
    headG s1 s2 (ix2 r j) = soft t r := by
  unfold headG
  show Ideal.div (prob (top s1 s2) (ix2 r j)) (broadcastTo S16x256 _ broadcasts_S1x256_S16x256 (ix2 r j)) = _
  rw [broadcastTo_1b_ab_apply, shapeCast_a_1a_apply, prob_apply, ht, ht]
  unfold soft
  refine congrArg (Ideal.div _) ((sumRows_apply _ _ _ rfl j).trans ?_)
  exact Finset.sum_congr rfl fun k _ => by rw [prob_apply, ht, ht]

end Cert.Proof.RouteRounds

end
-- ==== Proof.RouteRefRead.lean ====
/- The routing reference read at an element: the expert numbers and the weights, from a token's and a head's two rows of scores. -/
module

public import proofs.«01_k».proof.Proof.Gen.RouteRefIdeal.Read
public import proofs.«01_k».proof.Proof.RouteTop
public import proofs.«01_k».proof.Proof.RouteCand

@[expose] public section

noncomputable section

namespace Cert.Proof.RouteRefRead

open Idealize.ShloMosaic hiding ix1 ix2 ix3 ix4
open Idealize.ShloMosaic.ValueIdx Idealize.SL.Sem Cert.RouteRefIdeal Cert.RouteRefIdeal.Gen Cert.RouteRefIdeal.Read Cert.Proof.RouteSort
open Cert.Proof.RouteRounds (pairV pairE pick soft ord_le fold_absorb negInf)

variable (x0 : (⟨S8x4096x1024, .f32⟩ : BufTy).Contents (Elt Ideal)) (x1 : (⟨S1024x2048, .f32⟩ : BufTy).Contents (Elt Ideal))
  (x2 : (⟨S2x128x128, .f32⟩ : BufTy).Contents (Elt Ideal))

/-- A token's first and second scores for a head. -/
def f1 (t : Fin 32768) (h : Fin 8) (q : Fin 128) : EReal := val_main_v7 (F := Ideal) x0 x1 x2 (ix3 t h q)
def f2 (t : Fin 32768) (h : Fin 8) (q : Fin 128) : EReal := val_main_v12 (F := Ideal) x0 x1 x2 (ix3 t h q)

variable (t : Fin 32768) (h : Fin 8)

theorem values_at (r : Fin 16) : val_main_values (F := Ideal) x0 x1 x2 (ix3 t h r) = f1 x0 x1 x2 t h (ord (f1 x0 x1 x2 t h) (r.castLE (by decide))) :=
  RouteTop.topV (val_main_v7 (F := Ideal) x0 x1 x2) _ t h r (by decide)
theorem indices_at (r : Fin 16) : val_main_indices (F := Ideal) x0 x1 x2 (ix3 t h r) = BitVec.ofNat 32 (ord (f1 x0 x1 x2 t h) (r.castLE (by decide))).val :=
  RouteTop.topI (val_main_v7 (F := Ideal) x0 x1 x2) _ t h r (by decide)
theorem values_0_at (r : Fin 16) : val_main_values_0 (F := Ideal) x0 x1 x2 (ix3 t h r) = f2 x0 x1 x2 t h (ord (f2 x0 x1 x2 t h) (r.castLE (by decide))) :=
  RouteTop.topV (val_main_v12 (F := Ideal) x0 x1 x2) _ t h r (by decide)
theorem indices_1_at (r : Fin 16) : val_main_indices_1 (F := Ideal) x0 x1 x2 (ix3 t h r) = BitVec.ofNat 32 (ord (f2 x0 x1 x2 t h) (r.castLE (by decide))).val :=
  RouteTop.topI (val_main_v12 (F := Ideal) x0 x1 x2) _ t h r (by decide)

/-- The two ranks of a pair. -/
abbrev hi (p : Fin 256) : Fin 16 := ⟨p.val / 16, by have := p.isLt; omega⟩
abbrev lo (p : Fin 256) : Fin 16 := ⟨p.val % 16, by omega⟩

theorem pair_idx (p : Fin 256) : idx_main_v18 (ix3 t h p) = ix4 t h (hi p) (lo p) := by
  have := t.isLt; have := h.isLt; have := p.isLt
  funext a
  refine Fin.ext ?_
  match a with
  | ⟨0, _⟩ => show ((t.val * 8 + h.val) * 256 + p.val) / 2048 = t.val; omega
  | ⟨1, _⟩ => show ((t.val * 8 + h.val) * 256 + p.val) / 256 % 8 = h.val; omega
  | ⟨2, _⟩ => show ((t.val * 8 + h.val) * 256 + p.val) / 16 % 16 = p.val / 16; omega
  | ⟨3, _⟩ => show ((t.val * 8 + h.val) * 256 + p.val) % 16 = p.val % 16; omega

theorem v18_at (p : Fin 256) : val_main_v18 (F := Ideal) x0 x1 x2 (ix3 t h p) = pairV (f1 x0 x1 x2 t h) (f2 x0 x1 x2 t h) p := by
  rw [val_main_v18_apply, pair_idx, val_main_v17_apply, val_main_v15_apply, val_main_v16_apply, val_main_v13_apply, val_main_v14_apply]
  rw [show idx_main_v13 (idx_main_v15 (ix4 t h (hi p) (lo p))) = ix3 t h (hi p) from funext fun a => by
      match a with
      | ⟨0, _⟩ => rfl
      | ⟨1, _⟩ => rfl
      | ⟨2, _⟩ => rfl,
    show idx_main_v14 (idx_main_v16 (ix4 t h (hi p) (lo p))) = ix3 t h (lo p) from funext fun a => by
      match a with
      | ⟨0, _⟩ => rfl
      | ⟨1, _⟩ => rfl
      | ⟨2, _⟩ => rfl,
    values_at, values_0_at]
  rfl

theorem v26_at (p : Fin 256) : val_main_v26 (F := Ideal) x0 x1 x2 (ix3 t h p) = pairE (f1 x0 x1 x2 t h) (f2 x0 x1 x2 t h) p := by
  rw [val_main_v26_apply, show idx_main_v26 (ix3 t h p) = ix4 t h (hi p) (lo p) from pair_idx t h p, val_main_v25_apply, val_main_v23_apply,
    val_main_v24_apply, val_main_v21_apply, val_main_v22_apply, val_main_v19_apply, val_main_v20_apply, val_main_c_apply]
  rw [show idx_main_v19 (idx_main_v23 (ix4 t h (hi p) (lo p))) = ix3 t h (hi p) from funext fun a => by
      match a with
      | ⟨0, _⟩ => rfl
      | ⟨1, _⟩ => rfl
      | ⟨2, _⟩ => rfl,
    show idx_main_v22 (idx_main_v24 (ix4 t h (hi p) (lo p))) = ix3 t h (lo p) from funext fun a => by
      match a with
      | ⟨0, _⟩ => rfl
      | ⟨1, _⟩ => rfl
      | ⟨2, _⟩ => rfl,
    indices_at, indices_1_at]
  rfl

/-- The sixteen picks. -/
abbrev pk (r : Fin 16) : Fin 256 := pick (f1 x0 x1 x2 t h) (f2 x0 x1 x2 t h) r
/-- Their values. -/
abbrev tv (r : Fin 16) : EReal := pairV (f1 x0 x1 x2 t h) (f2 x0 x1 x2 t h) (pk x0 x1 x2 t h r)

theorem v18_row : (fun q : Fin 256 => val_main_v18 (F := Ideal) x0 x1 x2 (ix3 t h q)) = pairV (f1 x0 x1 x2 t h) (f2 x0 x1 x2 t h) :=
  funext (v18_at x0 x1 x2 t h)

theorem values_2_at (r : Fin 16) : val_main_values_2 (F := Ideal) x0 x1 x2 (ix3 t h r) = tv x0 x1 x2 t h r := by
  refine (RouteTop.topV (val_main_v18 (F := Ideal) x0 x1 x2) _ t h r (by decide)).trans ?_
  rw [v18_at, v18_row]
  rfl

theorem indices_3_at (r : Fin 16) : val_main_indices_3 (F := Ideal) x0 x1 x2 (ix3 t h r) = BitVec.ofNat 32 (pk x0 x1 x2 t h r).val := by
  refine (RouteTop.topI (val_main_v18 (F := Ideal) x0 x1 x2) _ t h r (by decide)).trans ?_
  rw [v18_row]
  rfl

theorem word_nonneg : ∀ p : Fin 256, IntOp.cmpi .slt (BitVec.ofNat 32 p.val) 0#32 = 0#1 := by decide +kernel
theorem word_in : ∀ p : Fin 256, IntOp.andi (IntOp.cmpi .sge (BitVec.ofNat 32 p.val) 0#32) (IntOp.cmpi .sle (BitVec.ofNat 32 p.val) 255#32) = 1#1 := by
  decide +kernel
theorem word_nat : ∀ p : Fin 256, (BitVec.ofNat 32 p.val).toInt.toNat = p.val := by decide +kernel

theorem call0_v4_at (r : Fin 16) : val_main_call0_v4 (F := Ideal) x0 x1 x2 (ix3 t h r) = BitVec.ofNat 32 (pk x0 x1 x2 t h r).val := by
  rw [val_main_call0_v4_apply, val_main_call0_v1_apply, val_main_call0_v0_apply, val_main_call0_c_apply, indices_3_at, word_nonneg]
  rfl

theorem call0_v5_at (r : Fin 16) (u : Fin 1) : val_main_call0_v5 (F := Ideal) x0 x1 x2 (ix4 t h r u) = BitVec.ofNat 32 (pk x0 x1 x2 t h r).val := by
  rw [val_main_call0_v5_apply, show idx_main_call0_v5 (ix4 t h r u) = ix3 t h r from funext fun a => Fin.ext (by
    have := t.isLt; have := h.isLt; have := r.isLt; have := u.isLt
    match a with
    | ⟨0, _⟩ => show (((t.val * 8 + h.val) * 16 + r.val) * 1 + u.val) / 128 = t.val; omega
    | ⟨1, _⟩ => show (((t.val * 8 + h.val) * 16 + r.val) * 1 + u.val) / 16 % 8 = h.val; omega
    | ⟨2, _⟩ => show (((t.val * 8 + h.val) * 16 + r.val) * 1 + u.val) % 16 = r.val; omega)]
  exact call0_v4_at x0 x1 x2 t h r

theorem call0_v11_at (r : Fin 16) (u : Fin 1) : val_main_call0_v11 (F := Ideal) x0 x1 x2 (ix4 t h r u) = 1#1 := by
  rw [val_main_call0_v11_apply, val_main_call0_v7_apply, val_main_call0_v10_apply, val_main_call0_v6_apply, val_main_call0_v9_apply, val_main_call0_v8_apply,
    val_main_call0_c_2_apply, val_main_call0_c_1_apply, call0_v5_at]
  exact word_in _

theorem call0_v12_at (r : Fin 16) : val_main_call0_v12 (F := Ideal) x0 x1 x2 (ix3 t h r) = 1#1 := by
  unfold val_main_call0_v12
  rw [Host.reduce_eq_fold_single IntOp.andi _ _ reducesTo_S32768x8x16x1_S32768x8x16_d3 (by decide)]
  refine (Finset.fold_congr (g := fun _ => 1#1) fun u _ => ?_).trans ?_
  · refine (congrArg (val_main_call0_v11 (F := Ideal) x0 x1 x2) (funext fun a => Fin.ext ?_)).trans (call0_v11_at x0 x1 x2 t h r u)
    match a with
    | ⟨0, _⟩ => rfl
    | ⟨1, _⟩ => rfl
    | ⟨2, _⟩ => rfl
    | ⟨3, _⟩ => rfl
  · rw [val_main_call0_c_3_apply]
    rfl

/-- The experts. -/
theorem v27_at (r : Fin 16) : val_main_v27 (F := Ideal) x0 x1 x2 (ix3 t h r) = pairE (f1 x0 x1 x2 t h) (f2 x0 x1 x2 t h) (pk x0 x1 x2 t h r) := by
  rw [val_main_v27_apply, call0_v12_at]
  refine Eq.trans (b := val_main_call0_v13 (F := Ideal) x0 x1 x2 (ix3 t h r)) rfl ?_
  refine (RouteTop.gather_last gather_S32768x8x256_S32768x8x16x1_S32768x8x16_n_2_01_01_2_3_111_wf (val_main_v26 (F := Ideal) x0 x1 x2)
    (val_main_call0_v5 (F := Ideal) x0 x1 x2) t h r (pk x0 x1 x2 t h r) ?_).trans (v26_at x0 x1 x2 t h _)
  rw [call0_v5_at]
  exact word_nat _

theorem v28_at : val_main_v28 (F := Ideal) x0 x1 x2 (ix2 t h) = tv x0 x1 x2 t h 0 := by
  unfold val_main_v28
  rw [Host.reduce_eq_fold_single FloatOps.maximumf _ _ reducesTo_S32768x8x16_S32768x8_d2 (by decide)]
  refine (Finset.fold_congr (g := fun r => tv x0 x1 x2 t h r) fun r _ => ?_).trans ?_
  · refine (congrArg (val_main_values_2 (F := Ideal) x0 x1 x2) (funext fun a => Fin.ext ?_)).trans (values_2_at x0 x1 x2 t h r)
    match a with
    | ⟨0, _⟩ => rfl
    | ⟨1, _⟩ => rfl
    | ⟨2, _⟩ => rfl
  · rw [val_main_cst_apply]
    refine fold_absorb (α := Ideal .f32) (n := 16) FloatOps.maximumf _ (tv x0 x1 x2 t h) 0 ?_ fun r _ => ?_
    · show max (tv x0 x1 x2 t h 0) (FloatOps.ofBits .f32 0xFF800000#32 : Ideal .f32) = _
      rw [negInf]
      exact max_eq_left bot_le
    · exact max_eq_left (ord_le _ _ _ (Nat.zero_le _))

theorem v32_at (r : Fin 16) : val_main_v32 (F := Ideal) x0 x1 x2 (ix3 t h r) = tv x0 x1 x2 t h 0 := by
  rw [val_main_v32_apply, val_main_v31_apply, val_main_v30_apply, val_main_v29_apply, val_main_cst_4_apply,
    show idx_main_v31 (idx_main_v32 (ix3 t h r)) = ix2 t h from funext fun a => by
      match a with
      | ⟨0, _⟩ => rfl
      | ⟨1, _⟩ => rfl, v28_at]
  show max (FloatOps.ofBits .f32 0xFF800000#32 : Ideal .f32) _ = _
  rw [negInf]
  exact max_eq_right bot_le

theorem v34_at (r : Fin 16) : val_main_v34 (F := Ideal) x0 x1 x2 (ix3 t h r) = Ideal.exp (tv x0 x1 x2 t h r - tv x0 x1 x2 t h 0) := by
  rw [val_main_v34_apply, val_main_v33_apply, values_2_at, v32_at]
  rfl

/-- The weights. -/
theorem v38_at (r : Fin 16) : val_main_v38 (F := Ideal) x0 x1 x2 (ix3 t h r) = soft (tv x0 x1 x2 t h) r := by
  rw [val_main_v38_apply, val_main_v37_apply, val_main_v36_apply, val_main_v35_apply, v34_at, val_main_cst_5_apply]
  refine congrArg (Ideal.div _) ?_
  refine (congrArg (· + _) (Ideal.ofBits_zero_f32)).trans ((zero_add _).trans (Finset.sum_congr rfl fun k _ => ?_))
  refine (congrArg (val_main_v34 (F := Ideal) x0 x1 x2) (funext fun a => ?_)).trans (v34_at x0 x1 x2 t h k)
  match a with
  | ⟨0, _⟩ => rfl
  | ⟨1, _⟩ => rfl
  | ⟨2, _⟩ => rfl

/-- The row of a head's rank in the results. -/
abbrev row (h : Fin 8) (r : Fin 16) : Fin 128 := ⟨16 * h.val + r.val, by have := h.isLt; have := r.isLt; omega⟩

theorem res_idx (r : Fin 16) : idx_main_v39 (ix2 t (row h r)) = ix3 t h r := by
  have := t.isLt; have := h.isLt; have := r.isLt
  funext a
  refine Fin.ext ?_
  match a with
  | ⟨0, _⟩ => show (t.val * 128 + (16 * h.val + r.val)) / 128 = t.val; omega
  | ⟨1, _⟩ => show (t.val * 128 + (16 * h.val + r.val)) / 16 % 8 = h.val; omega
  | ⟨2, _⟩ => show (t.val * 128 + (16 * h.val + r.val)) % 16 = r.val; omega

theorem v40_at (r : Fin 16) : val_main_v40 (F := Ideal) x0 x1 x2 (ix2 (row h r) t) = pairE (f1 x0 x1 x2 t h) (f2 x0 x1 x2 t h) (pk x0 x1 x2 t h r) := by
  rw [val_main_v40_apply, val_main_v39_apply,
    show idx_main_v39 (idx_main_v40 (ix2 (row h r) t)) = ix3 t h r from (congrArg idx_main_v39 (funext fun a => by
      match a with
      | ⟨0, _⟩ => rfl
      | ⟨1, _⟩ => rfl)).trans (res_idx t h r)]
  exact v27_at x0 x1 x2 t h r

theorem v42_at (r : Fin 16) : val_main_v42 (F := Ideal) x0 x1 x2 (ix2 (row h r) t) = soft (tv x0 x1 x2 t h) r := by
  rw [val_main_v42_apply, val_main_v41_apply,
    show idx_main_v41 (idx_main_v42 (ix2 (row h r) t)) = ix3 t h r from (congrArg idx_main_v39 (funext fun a => by
      match a with
      | ⟨0, _⟩ => rfl
      | ⟨1, _⟩ => rfl)).trans (res_idx t h r)]
  exact v38_at x0 x1 x2 t h r

end Cert.Proof.RouteRefRead

end
-- ==== Proof.RouteScore.lean ====
/- The scores of the routing kernel at an element, and that they are the reference's: a token's query columns against a sub-key row. -/
module

public import proofs.«01_k».proof.Proof.RouteRounds
public import proofs.«01_k».proof.Proof.RouteRefRead
public import proofs.«01_k».proof.Proof.Common

@[expose] public section

set_option maxRecDepth 16384

noncomputable section

namespace Cert.Proof.RouteScore

open Idealize.ShloMosaic hiding ix1 ix2 ix3 ix4
open Idealize.ShloMosaic.ValueIdx Idealize.SL.Sem

/-- Where a column of half `a` of head `h`'s query stands. -/
abbrev qcol (h : Fin 8) (a : Fin 2) (d : Fin 128) : Fin 2048 := ⟨256 * h.val + 128 * a.val + d.val, by omega⟩

/-- A score: the query columns of half `a` of head `h`, from a token's row `x`, against row `q` of the half's sub-keys. -/
def scoreAt (x : Fin 1024 → EReal) (w : Fin 1024 → Fin 2048 → EReal) (s : Fin 128 → Fin 128 → EReal) (a : Fin 2) (h : Fin 8) (q : Fin 128) : EReal :=
  ∑ d : Fin 128, (∑ e : Fin 1024, x e * w e (qcol h a d)) * s q d

section
open Cert.RouteIdeal Cert.RouteIdeal.Gen Cert.Proof.RouteRounds

variable (x0 : Vec Ideal S256x1024 .f32) (x1 : Vec Ideal S1024x2048 .bf16) (x2 : Vec Ideal S2x128x128 .bf16)

theorem quer_apply (j : Fin 256) (c : Fin 2048) : quer x0 x1 (ix2 j c) = ∑ e : Fin 1024, x0 (ix2 j e) * x1 (ix2 e c) := by
  unfold quer k0_pay4
  rw [shapeCast_self, shapeCast_self]
  refine (Common.matmul_zero_apply (φ₁ := .bf16) (φ₂ := .bf16) none (View.ld x0 r0_0) (View.ld x1 r0_1) _).trans (Finset.sum_congr rfl fun e _ => ?_)
  refine congrArg₂ (· * ·) ?_ ?_
  · refine (congrArg x0 ?_ : View.ld x0 r0_0 _ = x0 _)
    funext a; match a with
    | ⟨0, _⟩ => exact Fin.ext (by show 0 + 1 * j.val = j.val; omega)
    | ⟨1, _⟩ => exact Fin.ext (by show 0 + 1 * e.val = e.val; omega)
  · refine (congrArg x1 ?_ : View.ld x1 r0_1 _ = x1 _)
    funext a; match a with
    | ⟨0, _⟩ => exact Fin.ext (by show 0 + 1 * e.val = e.val; omega)
    | ⟨1, _⟩ => exact Fin.ext (by show 0 + 1 * c.val = c.val; omega)

theorem score_apply (q : FVec Ideal S256x2048 .f32) (w : Vec Ideal S1x128x128 .bf16) (o : Nat) (ho : o + 128 ≤ 2048) (k : Fin 128) (j : Fin 256) :
    score q w o ho (ix2 k j) = ∑ d : Fin 128, w (ix3 0 k d) * q (ix2 j ⟨o + d.val, by omega⟩) := by
  unfold score
  refine (Common.matmul_transposed_zero_apply (φ₁ := .bf16) (φ₂ := .bf16) none _ _ _).trans (Finset.sum_congr rfl fun d _ => ?_)
  refine congrArg₂ (· * ·) ?_ ?_
  · refine shapeCast_apply w _ _ (ix3 0 k d) ?_
    rewrite [Shape.rowMajor_val_three, Shape.rowMajor_val_two]
    show (0 * 128 + k.val) * 128 + d.val = k.val * 128 + d.val
    omega
  · show extractStridedSlice S256x128 ![0, o] q (slq o ho) _ = _
    refine extractStridedSlice_apply _ q (slq o ho) _ _ fun a => ?_
    match a with
    | ⟨0, _⟩ => show j.val = 0 + j.val; omega
    | ⟨1, _⟩ => show o + d.val = o + d.val; rfl

theorem sc1_apply (h : Fin 8) (k : Fin 128) (j : Fin 256) :
    sc1 x0 x1 x2 h (ix2 k j) = scoreAt (fun e => x0 (ix2 j e)) (fun e c => x1 (ix2 e c)) (fun q d => x2 (ix3 0 q d)) 0 h k := by
  unfold sc1
  refine (score_apply _ _ _ _ k j).trans (Finset.sum_congr rfl fun d _ => ?_)
  rw [quer_apply]
  refine (mul_comm _ _).trans (congrArg₂ (· * ·) (Finset.sum_congr rfl fun e _ => congrArg (x0 _ * x1 ·) (congrArg (ix2 e) (Fin.ext ?_))) ?_)
  · show 256 * h.val + d.val = 256 * h.val + 128 * 0 + d.val; omega
  · refine (congrArg x2 ?_ : View.ld x2 r0_2 _ = x2 _)
    funext a; match a with
    | ⟨0, _⟩ => rfl
    | ⟨1, _⟩ => exact Fin.ext (by show 0 + 1 * k.val = k.val; omega)
    | ⟨2, _⟩ => exact Fin.ext (by show 0 + 1 * d.val = d.val; omega)

theorem sc2_apply (h : Fin 8) (k : Fin 128) (j : Fin 256) :
    sc2 x0 x1 x2 h (ix2 k j) = scoreAt (fun e => x0 (ix2 j e)) (fun e c => x1 (ix2 e c)) (fun q d => x2 (ix3 1 q d)) 1 h k := by
  unfold sc2
  refine (score_apply _ _ _ _ k j).trans (Finset.sum_congr rfl fun d _ => ?_)
  rw [quer_apply]
  refine (mul_comm _ _).trans (congrArg₂ (· * ·) (Finset.sum_congr rfl fun e _ => congrArg (x0 _ * x1 ·) (congrArg (ix2 e) (Fin.ext ?_))) ?_)
  · show 256 * h.val + 128 + d.val = 256 * h.val + 128 * 1 + d.val; omega
  · refine (congrArg x2 ?_ : View.ld x2 r0_3 _ = x2 _)
    funext a; match a with
    | ⟨0, _⟩ => rfl
    | ⟨1, _⟩ => exact Fin.ext (by show 0 + 1 * k.val = k.val; omega)
    | ⟨2, _⟩ => exact Fin.ext (by show 0 + 1 * d.val = d.val; omega)
end

section
open Cert.RouteRefIdeal Cert.RouteRefIdeal.Gen Cert.RouteRefIdeal.Read Cert.Proof.RouteRefRead

variable (x0 : (⟨S8x4096x1024, .f32⟩ : BufTy).Contents (Elt Ideal)) (x1 : (⟨S1024x2048, .f32⟩ : BufTy).Contents (Elt Ideal))
  (x2 : (⟨S2x128x128, .f32⟩ : BufTy).Contents (Elt Ideal))

/-- Token `t`'s row of the layer's input. -/
abbrev tok (t : Fin 32768) (e : Fin 1024) : S8x4096x1024.Idx := ix3 (n0 := 8) (n1 := 4096) ⟨t.val / 4096, by omega⟩ ⟨t.val % 4096, by omega⟩ e

theorem q_at (t : Fin 32768) (h : Fin 8) (a : Fin 2) (d : Fin 128) :
    val_main_v2 (F := Ideal) x0 x1 (ix4 t h a d) = ∑ e : Fin 1024, x0 (tok t e) * x1 (ix2 e (qcol h a d)) := by
  have hi : idx_main_v2 (ix4 t h a d) = ix2 t (qcol h a d) := by
    have := t.isLt; have := h.isLt; have := a.isLt; have := d.isLt
    funext b; match b with
    | ⟨0, _⟩ => exact Fin.ext (by show (((t.val * 8 + h.val) * 2 + a.val) * 128 + d.val) / 2048 = t.val; omega)
    | ⟨1, _⟩ => exact Fin.ext (by show (((t.val * 8 + h.val) * 2 + a.val) * 128 + d.val) % 2048 = 256 * h.val + 128 * a.val + d.val; omega)
  rw [val_main_v2_apply, hi, val_main_v1_apply]
  refine Finset.sum_congr rfl fun e _ => ?_
  rw [val_main_v0_apply]
  refine congrArg₂ (· * ·) (congrArg x0 ?_) (congrArg x1 ?_)
  · have := t.isLt; have := e.isLt
    funext b; match b with
    | ⟨0, _⟩ => exact Fin.ext (by show (t.val * 1024 + e.val) / 4194304 = t.val / 4096; omega)
    | ⟨1, _⟩ => exact Fin.ext (by show (t.val * 1024 + e.val) / 1024 % 4096 = t.val % 4096; omega)
    | ⟨2, _⟩ => exact Fin.ext (by show (t.val * 1024 + e.val) % 1024 = e.val; omega)
  · funext b; match b with
    | ⟨0, _⟩ => rfl
    | ⟨1, _⟩ => rfl

theorem f1_eq (t : Fin 32768) (h : Fin 8) (q : Fin 128) :
    f1 x0 x1 x2 t h q = scoreAt (fun e => x0 (tok t e)) (fun e c => x1 (ix2 e c)) (fun q d => x2 (ix3 0 q d)) 0 h q := by
  have := t.isLt; have := h.isLt
  unfold f1
  rw [val_main_v7_apply]
  refine Finset.sum_congr rfl fun d _ => congrArg₂ (· * ·) ?_ ?_
  · rw [val_main_v4_apply, val_main_v3_apply]
    refine (congrArg (val_main_v2 (F := Ideal) x0 x1) ?_).trans (q_at x0 x1 t h 0 d)
    have := d.isLt
    funext b; match b with
    | ⟨0, _⟩ => exact Fin.ext (by show ((t.val * 8 + h.val) * 128 + d.val) / 1024 = t.val; omega)
    | ⟨1, _⟩ => exact Fin.ext (by show ((t.val * 8 + h.val) * 128 + d.val) / 128 % 8 = h.val; omega)
    | ⟨2, _⟩ => rfl
    | ⟨3, _⟩ => exact Fin.ext (by show ((t.val * 8 + h.val) * 128 + d.val) % 128 = d.val; omega)
  · rw [val_main_v6_apply, val_main_v5_apply]
    refine congrArg x2 ?_
    have := q.isLt; have := d.isLt
    funext b; match b with
    | ⟨0, _⟩ => rfl
    | ⟨1, _⟩ => exact Fin.ext (by show (q.val * 128 + d.val) / 128 % 128 = q.val; omega)
    | ⟨2, _⟩ => exact Fin.ext (by show (q.val * 128 + d.val) % 128 = d.val; omega)

theorem f2_eq (t : Fin 32768) (h : Fin 8) (q : Fin 128) :
    f2 x0 x1 x2 t h q = scoreAt (fun e => x0 (tok t e)) (fun e c => x1 (ix2 e c)) (fun q d => x2 (ix3 1 q d)) 1 h q := by
  have := t.isLt; have := h.isLt
  unfold f2
  rw [val_main_v12_apply]
  refine Finset.sum_congr rfl fun d _ => congrArg₂ (· * ·) ?_ ?_
  · rw [val_main_v9_apply, val_main_v8_apply]
    refine (congrArg (val_main_v2 (F := Ideal) x0 x1) ?_).trans (q_at x0 x1 t h 1 d)
    have := d.isLt
    funext b; match b with
    | ⟨0, _⟩ => exact Fin.ext (by show ((t.val * 8 + h.val) * 128 + d.val) / 1024 = t.val; omega)
    | ⟨1, _⟩ => exact Fin.ext (by show ((t.val * 8 + h.val) * 128 + d.val) / 128 % 8 = h.val; omega)
    | ⟨2, _⟩ => rfl
    | ⟨3, _⟩ => exact Fin.ext (by show ((t.val * 8 + h.val) * 128 + d.val) % 128 = d.val; omega)
  · rw [val_main_v11_apply, val_main_v10_apply]
    refine congrArg x2 ?_
    have := q.isLt; have := d.isLt
    funext b; match b with
    | ⟨0, _⟩ => rfl
    | ⟨1, _⟩ => exact Fin.ext (by show (q.val * 128 + d.val) / 128 % 128 = q.val; omega)
    | ⟨2, _⟩ => exact Fin.ext (by show (q.val * 128 + d.val) % 128 = d.val; omega)
end

/-! ## Scores of finite numbers are finite -/

/-- A real number among the extended ones. -/
def Fi (v : EReal) : Prop := ∃ r : ℝ, v = (r : EReal)

theorem Fi.mul {a b : EReal} (ha : Fi a) (hb : Fi b) : Fi (a * b) := by
  obtain ⟨r, rfl⟩ := ha; obtain ⟨s, rfl⟩ := hb
  exact ⟨r * s, (EReal.coe_mul r s).symm⟩
theorem Fi.sum {n : Nat} (f : Fin n → EReal) (h : ∀ i, Fi (f i)) : Fi (∑ i, f i) := by
  refine Finset.sum_induction f Fi (fun a b ha hb => ?_) ⟨0, rfl⟩ fun i _ => h i
  obtain ⟨r, rfl⟩ := ha; obtain ⟨s, rfl⟩ := hb
  exact ⟨r + s, (EReal.coe_add r s).symm⟩
theorem Fi.ne_bot {a : EReal} (h : Fi a) : a ≠ ⊥ := by
  obtain ⟨r, rfl⟩ := h; exact EReal.coe_ne_bot r

theorem scoreAt_fi {x : Fin 1024 → EReal} {w : Fin 1024 → Fin 2048 → EReal} {s : Fin 128 → Fin 128 → EReal} (hx : ∀ e, Fi (x e)) (hw : ∀ e c, Fi (w e c))
    (hs : ∀ q d, Fi (s q d)) (a : Fin 2) (h : Fin 8) (q : Fin 128) : Fi (scoreAt x w s a h q) :=
  Fi.sum _ fun d => (Fi.sum _ fun e => (hx e).mul (hw e _)).mul (hs q d)

end Cert.Proof.RouteScore

end
-- ==== Proof.Route.lean ====
/- The routing call: at the ideal numbers, and from finite arguments, the kernel's two result arrays are the reference's expert numbers and weights. -/
module

public import proofs.«01_k».proof.Defs
public import proofs.«01_k».proof.Proof.Gen.RouteIdeal.Value
public import proofs.«01_k».proof.Proof.Gen.RouteRefIdeal.Read
public import proofs.«01_k».proof.Proof.Gen.Pre_all_finite
public import Idealize.ShloMosaic.Lib.Claim
public import proofs.«01_k».proof.Proof.RouteScore

@[expose] public section

set_option maxRecDepth 16384

noncomputable section

namespace Cert.Proof.RouteValue

open Idealize.ShloMosaic hiding ix1 ix2 ix3 ix4
open Idealize.ShloMosaic.TcCoe Idealize.SL.Sem
open Idealize.ShloMosaic.Pipeline (Dat)
open Idealize.ShloMosaic.ValueIdx
open Cert.RouteIdeal Cert.RouteIdeal.Gen Cert.RouteIdeal.Value
open Cert.Proof.RouteRounds Cert.Proof.RouteScore
open Cert.Proof.RouteRefRead (f1 f2 pk tv row)

/-! ## What eight strips of sixteen rows hold -/

theorem strip {e : EltTy} (G : Fin 8 → Vec Ideal S16x256 e) (h : Fin 8) (r : Fin 16) (j : Fin 256) :
    View.canon (Val := Elt Ideal) (s := S128x256) (e := e) [⟨r0_11, G 7⟩, ⟨r0_10, G 6⟩, ⟨r0_9, G 5⟩, ⟨r0_8, G 4⟩, ⟨r0_7, G 3⟩, ⟨r0_6, G 2⟩, ⟨r0_5, G 1⟩, ⟨r0_4, G 0⟩] (ix2 (row h r) j)
      = G h (ix2 r j) := by
  have hr := r.isLt
  have step : ∀ (o : Nat) (inb : ∀ a, (![o, 0] : Fin 2 → ℕ) a + S16x256.size a ≤ S128x256.size a) (w : Vec Ideal S16x256 e) (L : List (View.Piece (Elt Ideal) S128x256 e)),
      16 * h.val + 16 ≤ o → View.canon (Val := Elt Ideal) (⟨Rect.unit (s := S128x256) ![o, 0] S16x256.size inb, w⟩ :: L) (ix2 (row h r) j) = View.canon L (ix2 (row h r) j) := by
    intro o inb w L ho
    refine View.canon_cons_of_not_mem _ L ?_
    refine Rect.not_mem_set_of_axis _ _ 0 o 16 rfl rfl rfl (Or.inl ?_)
    show 16 * h.val + r.val < o
    omega
  have last : ∀ (o : Nat) (inb : ∀ a, (![o, 0] : Fin 2 → ℕ) a + S16x256.size a ≤ S128x256.size a) (w : Vec Ideal S16x256 e) (L : List (View.Piece (Elt Ideal) S128x256 e)),
      16 * h.val = o → View.canon (Val := Elt Ideal) (⟨Rect.unit (s := S128x256) ![o, 0] S16x256.size inb, w⟩ :: L) (ix2 (row h r) j) = w (ix2 r j) := by
    intro o inb w L ho
    have hy : (ix2 (row h r) j : S128x256.Idx) = (Rect.unit (s := S128x256) ![o, 0] S16x256.size inb).emb (ix2 r j) := by
      funext a; match a with
      | ⟨0, _⟩ => exact Fin.ext (by show 16 * h.val + r.val = o + 1 * r.val; omega)
      | ⟨1, _⟩ => exact Fin.ext (by show j.val = 0 + 1 * j.val; omega)
    rw [hy]
    exact View.canon_cons_emb (Rect.unit (s := S128x256) ![o, 0] S16x256.size inb) w L (ix2 r j)
  obtain ⟨h, hh⟩ := h
  match h, hh with
  | 7, _ => exact last _ _ _ _ rfl
  | 6, _ => exact (step _ _ _ _ (Nat.le_of_ble_eq_true rfl)).trans (last _ _ _ _ rfl)
  | 5, _ => exact (step _ _ _ _ (Nat.le_of_ble_eq_true rfl)).trans ((step _ _ _ _ (Nat.le_of_ble_eq_true rfl)).trans (last _ _ _ _ rfl))
  | 4, _ => exact (step _ _ _ _ (Nat.le_of_ble_eq_true rfl)).trans ((step _ _ _ _ (Nat.le_of_ble_eq_true rfl)).trans ((step _ _ _ _ (Nat.le_of_ble_eq_true rfl)).trans (last _ _ _ _ rfl)))
  | 3, _ => exact (step _ _ _ _ (Nat.le_of_ble_eq_true rfl)).trans ((step _ _ _ _ (Nat.le_of_ble_eq_true rfl)).trans ((step _ _ _ _ (Nat.le_of_ble_eq_true rfl)).trans ((step _ _ _ _ (Nat.le_of_ble_eq_true rfl)).trans
      (last _ _ _ _ rfl))))
  | 2, _ => exact (step _ _ _ _ (Nat.le_of_ble_eq_true rfl)).trans ((step _ _ _ _ (Nat.le_of_ble_eq_true rfl)).trans ((step _ _ _ _ (Nat.le_of_ble_eq_true rfl)).trans ((step _ _ _ _ (Nat.le_of_ble_eq_true rfl)).trans
      ((step _ _ _ _ (Nat.le_of_ble_eq_true rfl)).trans (last _ _ _ _ rfl)))))
  | 1, _ => exact (step _ _ _ _ (Nat.le_of_ble_eq_true rfl)).trans ((step _ _ _ _ (Nat.le_of_ble_eq_true rfl)).trans ((step _ _ _ _ (Nat.le_of_ble_eq_true rfl)).trans ((step _ _ _ _ (Nat.le_of_ble_eq_true rfl)).trans
      ((step _ _ _ _ (Nat.le_of_ble_eq_true rfl)).trans ((step _ _ _ _ (Nat.le_of_ble_eq_true rfl)).trans (last _ _ _ _ rfl))))))
  | 0, _ => exact (step _ _ _ _ (Nat.le_of_ble_eq_true rfl)).trans ((step _ _ _ _ (Nat.le_of_ble_eq_true rfl)).trans ((step _ _ _ _ (Nat.le_of_ble_eq_true rfl)).trans ((step _ _ _ _ (Nat.le_of_ble_eq_true rfl)).trans
      ((step _ _ _ _ (Nat.le_of_ble_eq_true rfl)).trans ((step _ _ _ _ (Nat.le_of_ble_eq_true rfl)).trans ((step _ _ _ _ (Nat.le_of_ble_eq_true rfl)).trans (last _ _ _ _ rfl)))))))

/-- A row of the strips is a strip and a row of it. -/
theorem rows (y : S128x256.Idx) : ∃ (h : Fin 8) (r : Fin 16) (j : Fin 256), y = ix2 (row h r) j := by
  have h0 : (y 0).val < 128 := (y 0).isLt
  refine ⟨⟨(y 0).val / 16, by omega⟩, ⟨(y 0).val % 16, by omega⟩, y 1, ?_⟩
  funext a; match a with
  | ⟨0, _⟩ => exact Fin.ext (by show (y 0).val = 16 * ((y 0).val / 16) + (y 0).val % 16; omega)
  | ⟨1, _⟩ => rfl

/-! ## The blocks a point reads -/

variable (m : (ℓ : Loc nD τ sig) → Buf (Elt Ideal) ℓ) (c : Dev nD)

/-- The three arguments. -/
abbrev aX : (⟨S8x4096x1024, .f32⟩ : BufTy).Contents (Elt Ideal) := m ((c : Thread nD τ).loc main_arg0)
abbrev aW : (⟨S1024x2048, .f32⟩ : BufTy).Contents (Elt Ideal) := m ((c : Thread nD τ).loc main_arg1)
abbrev aS : (⟨S2x128x128, .f32⟩ : BufTy).Contents (Elt Ideal) := m ((c : Thread nD τ).loc main_arg2)

theorem idx : ∀ t : Fin cfg0.N, win0_0.index t = ![t.val, 0] ∧ win0_1.index t = ![0, 0] ∧ win0_2.index t = ![0, 0, 0] ∧ win0_3.index t = ![0, t.val]
    ∧ win0_4.index t = ![0, t.val] :=
  (by decide +kernel : ∀ t : Fin grid0.N, _)

/-- The token that column `j` of point `t`'s block is. -/
abbrev tk (t : Fin cfg0.N) (j : Fin 256) : Fin 32768 := ⟨256 * t.val + j.val, by have := t.isLt; have h : cfg0.N = 128 := rfl; omega⟩

theorem blk0 (t : Fin cfg0.N) (j : Fin 256) (e : Fin 1024) : iblk m c 0 t (ix2 j e) = aX m c (tok (tk t j) e) := by
  have hV : V m c main_v0 = shapeCast S32768x1024 (aX m c) shapeCasts_S8x4096x1024_S32768x1024 := rfl
  have hi : ((cfg0.win 0).blk t).view.emb (ix2 j e) = (ix2 (tk t j) e : S32768x1024.Idx) := by
    blk_ext! [idx t]
    show t.val * 256 + j.val = 256 * t.val + j.val
    omega
  show (V m c main_v0) (((cfg0.win 0).blk t).view.emb (ix2 j e)) = _
  rw [hV, hi]
  refine shapeCast_apply _ _ _ (tok (tk t j) e) ?_
  rewrite [Shape.rowMajor_val_three, Shape.rowMajor_val_two]
  have := (tk t j).isLt
  show ((tk t j).val / 4096 * 4096 + (tk t j).val % 4096) * 1024 + e.val = (tk t j).val * 1024 + e.val
  omega

theorem blk1 (t : Fin cfg0.N) (e : Fin 1024) (d : Fin 2048) : iblk m c 1 t (ix2 e d) = aW m c (ix2 e d) := by
  blk_ext! [iblk, V, idx t]

theorem blk2 (t : Fin cfg0.N) (a : Fin 2) (q d : Fin 128) : iblk m c 2 t (ix3 a q d) = aS m c (ix3 a q d) := by
  blk_ext! [iblk, V, idx t]

theorem col1 (t : Fin cfg0.N) (h : Fin 8) (j : Fin 256) :
    col (sc1 (iblk m c 0 t) (iblk m c 1 t) (iblk m c 2 t) h) j = f1 (aX m c) (aW m c) (aS m c) (tk t j) h := by
  funext q
  refine (sc1_apply _ _ _ h q j).trans (Eq.trans ?_ (f1_eq (aX m c) (aW m c) (aS m c) (tk t j) h q).symm)
  simp only [blk0, blk1, blk2]

theorem col2 (t : Fin cfg0.N) (h : Fin 8) (j : Fin 256) :
    col (sc2 (iblk m c 0 t) (iblk m c 1 t) (iblk m c 2 t) h) j = f2 (aX m c) (aW m c) (aS m c) (tk t j) h := by
  funext q
  refine (sc2_apply _ _ _ h q j).trans (Eq.trans ?_ (f2_eq (aX m c) (aW m c) (aS m c) (tk t j) h q).symm)
  simp only [blk0, blk1, blk2]

/-! ## Finite arguments -/

theorem fi_of {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) : Fi (x i) := by
  have hi := congrFun h i
  have hinf : Ideal.ofBits .f32 0x7F800000#32 = (⊤ : EReal) := by simp [Ideal.ofBits, Ideal.ieee]
  have h1 : BitVec.ofBool (decide (max (x i : EReal) (-(x i : EReal)) < Ideal.ofBits .f32 0x7F800000#32)) = 1#1 := hi
  rw [hinf] at h1
  have h2 : max (x i : EReal) (-(x i : EReal)) < ⊤ := by
    by_contra hn
    rw [decide_eq_false hn] at h1
    exact absurd h1 (by decide)
  obtain ⟨ha, hb⟩ := max_lt_iff.mp h2
  refine ⟨EReal.toReal (x i), (EReal.coe_toReal ha.ne fun hx => ?_).symm⟩
  rw [hx] at hb
  exact absurd hb (by simp)

section
variable (hX : ∀ i, Fi (aX m c i)) (hW : ∀ i, Fi (aW m c i)) (hS : ∀ i, Fi (aS m c i))
include hX hW hS

theorem f1_ne (t : Fin 32768) (h : Fin 8) (q : Fin 128) : f1 (aX m c) (aW m c) (aS m c) t h q ≠ ⊥ := by
  rw [f1_eq]; exact (scoreAt_fi (fun e => hX _) (fun e d => hW _) (fun q d => hS _) _ _ _).ne_bot
theorem f2_ne (t : Fin 32768) (h : Fin 8) (q : Fin 128) : f2 (aX m c) (aW m c) (aS m c) t h q ≠ ⊥ := by
  rw [f2_eq]; exact (scoreAt_fi (fun e => hX _) (fun e d => hW _) (fun q d => hS _) _ _ _).ne_bot
theorem pair_ne (t : Fin 32768) (h : Fin 8) (p : Fin 256) : pairV (f1 (aX m c) (aW m c) (aS m c) t h) (f2 (aX m c) (aW m c) (aS m c) t h) p ≠ ⊥ := by
  unfold pairV
  rw [Ne, EReal.add_eq_bot_iff, not_or]
  exact ⟨f1_ne m c hX hW hS t h _, f2_ne m c hX hW hS t h _⟩

theorem final3 : (dats m 0 c).arrAt 3 cfg0.N = Cert.RouteRefIdeal.Read.val_main_v40 (F := Ideal) (aX m c) (aW m c) (aS m c) := by
  refine (dats m 0 c).arrAt_eq_of_covers 3 _ (by decide +kernel) fun t hf y => ?_
  blk_simp
  rw [after0_3, out_3]
  obtain ⟨h, r, j, rfl⟩ := rows y
  refine (strip (e := .i32) (fun h => headE (sc1 (iblk m c 0 t) (iblk m c 1 t) (iblk m c 2 t) h) (sc2 (iblk m c 0 t) (iblk m c 1 t) (iblk m c 2 t) h)) h r j).trans ?_
  refine (headE_apply _ _ j ?_ ?_ ?_ r).trans ?_
  · rw [col1]; exact f1_ne m c hX hW hS _ h
  · rw [col2]; exact f2_ne m c hX hW hS _ h
  · rw [col1, col2]; exact pair_ne m c hX hW hS _ h
  · rw [col1, col2]
    refine (RouteRefRead.v40_at (aX m c) (aW m c) (aS m c) (tk t j) h r).symm.trans (congrArg _ ?_)
    blk_ext! [idx t]
    show 256 * t.val + j.val = t.val * 256 + j.val
    omega

theorem final4 : (dats m 0 c).arrAt 4 cfg0.N = Cert.RouteRefIdeal.Read.val_main_v42 (F := Ideal) (aX m c) (aW m c) (aS m c) := by
  refine (dats m 0 c).arrAt_eq_of_covers 4 _ (by decide +kernel) fun t hf y => ?_
  blk_simp
  rw [after0_4, out_4]
  obtain ⟨h, r, j, rfl⟩ := rows y
  refine (strip (e := .f32) (fun h => headG (sc1 (iblk m c 0 t) (iblk m c 1 t) (iblk m c 2 t) h) (sc2 (iblk m c 0 t) (iblk m c 1 t) (iblk m c 2 t) h)) h r j).trans ?_
  refine (headG_apply _ _ j (tv (aX m c) (aW m c) (aS m c) (tk t j) h) (fun r => ?_) r).trans ?_
  · refine (top_apply _ _ j ?_ ?_ ?_ r).trans ?_
    · rw [col1]; exact f1_ne m c hX hW hS _ h
    · rw [col2]; exact f2_ne m c hX hW hS _ h
    · rw [col1, col2]; exact pair_ne m c hX hW hS _ h
    · rw [col1, col2]
  · refine (RouteRefRead.v42_at (aX m c) (aW m c) (aS m c) (tk t j) h r).symm.trans (congrArg _ ?_)
    blk_ext! [idx t]
    show 256 * t.val + j.val = t.val * 256 + j.val
    omega
end

/-- The stated precondition, read: each element of each argument is a real number. -/
theorem finite_of (hpre : Cert.Pre_RouteIdeal_all_finite m) : (∀ i, Fi (aX m c i)) ∧ (∀ i, Fi (aW m c i)) ∧ ∀ i, Fi (aS m c i) := by
  obtain ⟨h0, h1, h2⟩ := hpre c
  exact ⟨fun i => fi_of _ _ h0 i, fun i => fi_of _ _ h1 i, fun i => fi_of _ _ h2 i⟩

/-- The kernel and its reference give the same two arrays. -/
theorem algebraic : Cert.algebraic_RouteIdeal_RouteRefIdeal_pre_all_finite := by
  pair_intro
  · run_from Cert.RouteIdeal.Value.run_blocks m g
  · refine (θ_run _ _ _).mono (fun r h c => ?_) (Cert.RouteRefIdeal.Value.run m' g')
    obtain ⟨ha, hb, hx, hw, hs⟩ := h c
    obtain ⟨e0, e1, e2⟩ := hagree c
    obtain ⟨hX, hW, hS⟩ := finite_of m c hpre
    refine ⟨?_, ?_, hx, hw, hs⟩
    · refine ha.trans ((Cert.RouteRefIdeal.Read.val_main_v40_eq m' c).trans ?_)
      rw [e0, e1, e2]
      exact (final3 m c hX hW hS).symm
    · refine hb.trans ((Cert.RouteRefIdeal.Read.val_main_v42_eq m' c).trans ?_)
      rw [e0, e1, e2]
      exact (final4 m c hX hW hS).symm

end Cert.Proof.RouteValue
end
-- ==== Proof.lean ====
module

public import proofs.«01_k».proof.Defs
public import proofs.«01_k».proof.Proof.Gen.MemKv
public import proofs.«01_k».proof.Proof.MemKv
public import proofs.«01_k».proof.Proof.Gen.InProj
public import proofs.«01_k».proof.Proof.InProj
public import proofs.«01_k».proof.Proof.Gen.ProjLn
public import proofs.«01_k».proof.Proof.ProjLn
public import proofs.«01_k».proof.Proof.Gen.MemAttn
public import proofs.«01_k».proof.Proof.MemAttn
public import proofs.«01_k».proof.Proof.Gen.InSample
public import proofs.«01_k».proof.Proof.InSample
public import proofs.«01_k».proof.Proof.Gen.Route
public import proofs.«01_k».proof.Proof.Route
public import Idealize.ShloMosaic.Adequacy
public import Idealize.ShloMosaic.Init

@[expose] public section

noncomputable section

namespace Cert.Proof

open Idealize.ShloMosaic Idealize.SL.Sem

theorem defs_MemKv : Cert.MemKv.defs (F := Bits) = Cert.MemKvIdeal.defs (F := Bits) :=
  congrArg (Pipeline.defs Cert.MemKvIdeal.pcfgs) (by
    unfold Cert.MemKv.defs₀ Cert.MemKvIdeal.defs₀
    congr 1
    funext l p
    match l, p with
    | 0, (t, s) => rfl)

theorem frame_MemKv : Cert.quiescent_MemKv := by
  intro m ρ _
  rw [defs_MemKv]
  exact Cert.MemKvIdeal.Gen.frame (F := Bits) m ρ

theorem frame_MemKvRef : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run m ρ)

theorem defs_InProj : Cert.InProj.defs (F := Bits) = Cert.InProjIdeal.defs (F := Bits) :=
  congrArg (Pipeline.defs Cert.InProjIdeal.pcfgs) (by
    unfold Cert.InProj.defs₀ Cert.InProjIdeal.defs₀
    congr 1
    funext l p
    match l, p with
    | 0, (t, s) => rfl)

set_option maxHeartbeats 8000000 in
theorem frame_InProj : Cert.quiescent_InProj := by
  intro m ρ _
  rw [defs_InProj]
  exact Cert.InProjIdeal.Gen.frame (F := Bits) m ρ

theorem frame_InProjRef : Cert.quiescent_InProjRefIdeal := fun m ρ _ =>
  (θ_run Cert.InProjRefIdeal.defs _ _).mono (fun r h => ⟨fun c => (h c).2.2.2.2, sem_eq_zero_of_no_sems (by decide) r.2⟩)
    (Cert.InProjRefIdeal.Value.run m ρ)

theorem defs_ProjLn : Cert.ProjLn.defs (F := Bits) = Cert.ProjLnIdeal.defs (F := Bits) :=
  congrArg (Pipeline.defs Cert.ProjLnIdeal.pcfgs) (by
    unfold Cert.ProjLn.defs₀ Cert.ProjLnIdeal.defs₀
    congr 1
    funext l p
    match l, p with
    | 0, (t, s) => rfl)

theorem frame_ProjLn : Cert.quiescent_ProjLn := by
  intro m ρ _
  rw [defs_ProjLn]
  exact Cert.ProjLnIdeal.Gen.frame (F := Bits) m ρ

theorem frame_ProjLnRef : Cert.quiescent_ProjLnRefIdeal := fun m ρ _ =>
  (θ_run Cert.ProjLnRefIdeal.defs _ _).mono (fun r h => ⟨fun c => (h c).2, sem_eq_zero_of_no_sems (by decide) r.2⟩)
    (Cert.ProjLnRefIdeal.Value.run m ρ)

theorem defs_MemAttn : Cert.MemAttn.defs (F := Bits) = Cert.MemAttnIdeal.defs (F := Bits) :=
  congrArg (Pipeline.defs Cert.MemAttnIdeal.pcfgs) (by
    unfold Cert.MemAttn.defs₀ Cert.MemAttnIdeal.defs₀
    congr 1
    funext l p
    match l, p with
    | 0, (t, s) => rfl)

theorem frame_MemAttn : Cert.quiescent_MemAttn := by
  intro m ρ _
  rw [defs_MemAttn]
  exact Cert.MemAttnIdeal.Gen.frame (F := Bits) m ρ

theorem frame_MemAttnRef : Cert.quiescent_MemAttnRefIdeal := fun m ρ _ =>
  (θ_run Cert.MemAttnRefIdeal.defs _ _).mono (fun r h => ⟨fun c => (h c).2, sem_eq_zero_of_no_sems (by decide) r.2⟩)
    (Cert.MemAttnRefIdeal.Value.run m ρ)

theorem defs_InSample : Cert.InSample.defs (F := Bits) = Cert.InSampleIdeal.defs (F := Bits) :=
  congrArg (Pipeline.defs Cert.InSampleIdeal.pcfgs) (by
    unfold Cert.InSample.defs₀ Cert.InSampleIdeal.defs₀
    congr 1
    funext l p
    match l, p with
    | 0, (t, s) => rfl)

set_option maxHeartbeats 8000000 in
theorem frame_InSample : Cert.quiescent_InSample := by
  intro m ρ _
  rw [defs_InSample]
  exact Cert.InSampleIdeal.Gen.frame (F := Bits) m ρ

theorem frame_InSampleRef : Cert.quiescent_InSampleRefIdeal := fun m ρ _ =>
  (θ_run Cert.InSampleRefIdeal.defs _ _).mono (fun r h => ⟨fun c => (h c).2.2.2.2, sem_eq_zero_of_no_sems (by decide) r.2⟩)
    (Cert.InSampleRefIdeal.Value.run m ρ)

theorem defs_Route : Cert.Route.defs (F := Bits) = Cert.RouteIdeal.defs (F := Bits) :=
  congrArg (Pipeline.defs Cert.RouteIdeal.pcfgs) (by
    unfold Cert.Route.defs₀ Cert.RouteIdeal.defs₀
    congr 1
    funext l p
    match l, p with
    | 0, (t, s) => rfl)

theorem frame_Route : Cert.quiescent_Route := by
  intro m ρ _
  rw [defs_Route]
  exact Cert.RouteIdeal.Gen.frame (F := Bits) m ρ

theorem frame_RouteRef : Cert.quiescent_RouteRefIdeal := fun m ρ _ =>
  (θ_run Cert.RouteRefIdeal.defs _ _).mono (fun r h => ⟨fun c => (h c).2.2, sem_eq_zero_of_no_sems (by decide) r.2⟩)
    (Cert.RouteRefIdeal.Value.run m ρ)

theorem claim : Cert.Claim :=
  ⟨Cert.MemKv.Gen.facts, Cert.MemKvIdeal.Gen.facts, Cert.MemKvRefIdeal.Gen.facts, Cert.InProj.Gen.facts, Cert.InProjIdeal.Gen.facts, Cert.InProjRefIdeal.Gen.facts, Cert.ProjLn.Gen.facts, Cert.ProjLnIdeal.Gen.facts, Cert.ProjLnRefIdeal.Gen.facts, Cert.MemAttn.Gen.facts, Cert.MemAttnIdeal.Gen.facts, Cert.MemAttnRefIdeal.Gen.facts, Cert.InSample.Gen.facts, Cert.InSampleIdeal.Gen.facts, Cert.InSampleRefIdeal.Gen.facts, Cert.Route.Gen.facts, Cert.RouteIdeal.Gen.facts, Cert.RouteRefIdeal.Gen.facts, Cert.Pre_all_finite.Gen.facts,
   frame_MemKv, fun m ρ _ => Cert.MemKvIdeal.Gen.frame m ρ, frame_MemKvRef,
   frame_InProj, fun m ρ _ => Cert.InProjIdeal.Gen.frame m ρ, frame_InProjRef,
   frame_ProjLn, fun m ρ _ => Cert.ProjLnIdeal.Gen.frame m ρ, frame_ProjLnRef,
   frame_MemAttn, fun m ρ _ => Cert.MemAttnIdeal.Gen.frame m ρ, frame_MemAttnRef,
   frame_InSample, fun m ρ _ => Cert.InSampleIdeal.Gen.frame m ρ, frame_InSampleRef,
   frame_Route, fun m ρ _ => Cert.RouteIdeal.Gen.frame m ρ, fun m ρ _ => Cert.RouteIdeal.Gen.frame m ρ,
   frame_RouteRef, fun m ρ _ => frame_RouteRef m ρ trivial,
   trivial, MemKvValue.algebraic,
   trivial, InProjValue.algebraic,
   trivial, ProjLnValue.algebraic,
   trivial, MemAttnValue.algebraic,
   trivial, InSampleValue.algebraic,
   trivial, RouteValue.algebraic⟩

end Cert.Proof

end
